-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_scales [hPre_finite_x_scales : Cert.Pre_finite_x_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_scales [hPre_finite_x_scales : Cert.Pre_finite_x_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_x_scales [hKernelIdeal : Cert.KernelIdeal.Facts] [hPre_finite_x_scales : Cert.Pre_finite_x_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_x_scales [hReferenceIdeal : Cert.ReferenceIdeal.Facts] [hPre_finite_x_scales : Cert.Pre_finite_x_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x3A638E39#32 ((1 / 1152 : ℝ) : EReal)

def algebraic_KernelIdeal_ReferenceIdeal_pre_finite_x_scales [hKernelIdeal : Cert.KernelIdeal.Facts] [hReferenceIdeal : Cert.ReferenceIdeal.Facts] [hPre_finite_x_scales : Cert.Pre_finite_x_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_x_scales : Cert.Pre_finite_x_scales.Facts),
    quiescent_Kernel (hKernel := hKernel)
    ∧ quiescent_KernelIdeal (hKernelIdeal := hKernelIdeal)
    ∧ quiescent_KernelIdeal_pre_finite_x_scales (hKernelIdeal := hKernelIdeal) (hPre_finite_x_scales := hPre_finite_x_scales)
    ∧ quiescent_ReferenceIdeal (hReferenceIdeal := hReferenceIdeal)
    ∧ quiescent_ReferenceIdeal_pre_finite_x_scales (hReferenceIdeal := hReferenceIdeal) (hPre_finite_x_scales := hPre_finite_x_scales)
    ∧ preserves_Kernel_KernelIdeal
    ∧ algebraic_KernelIdeal_ReferenceIdeal_pre_finite_x_scales (hKernelIdeal := hKernelIdeal) (hReferenceIdeal := hReferenceIdeal) (hPre_finite_x_scales := hPre_finite_x_scales)
-- ==== Pre_finite_x_scales.lean ====
abbrev S64x1024x1152 : Shape := ⟨3, ![64, 1024, 1152]⟩
abbrev S64x1024 : Shape := ⟨2, ![64, 1024]⟩
abbrev S64x1152 : Shape := ⟨2, ![64, 1152]⟩
abbrev S_ : Shape := ⟨0, ![]⟩

class Facts : Prop where
  bcast_S_S64x1024 : S_.BroadcastsInDim S64x1024 (![] : Fin 0 → Fin S64x1024.rank)

variable [Facts]

def fn {F : FTy → Type} [FloatOps F] (main_arg0 : FVec F S64x1024x1152 .fp8e4m3) (main_arg1 : FVec F S64x1024 .f32) (main_arg2 : FVec F S64x1024x1152 .bf16) (main_arg3 : FVec F S64x1024x1152 .fp8e5m2) (main_arg4 : FVec F S64x1024 .f32) (main_arg5 : FVec F S64x1024x1152 .fp8e5m2) (main_arg6 : FVec F S64x1024 .f32) (main_arg7 : FVec F S64x1152 .f32) : IVec S64x1024 1 :=
  let main_v0 : FVec F S64x1024 .f32 := Host.absf main_arg1
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  main_v2
-- ==== Kernel.lean ====
abbrev S64x1024x1152 : Shape := ⟨3, ![64, 1024, 1152]⟩
abbrev S64x1024 : Shape := ⟨2, ![64, 1024]⟩
abbrev S64x1152 : Shape := ⟨2, ![64, 1152]⟩
abbrev S64x3x1152 : Shape := ⟨3, ![64, 3, 1152]⟩
abbrev S64x8x3x1152 : Shape := ⟨4, ![64, 8, 3, 1152]⟩
abbrev S1x1024x1152 : Shape := ⟨3, ![1, 1024, 1152]⟩
abbrev S8x1024 : Shape := ⟨2, ![8, 1024]⟩
abbrev S8x1152 : Shape := ⟨2, ![8, 1152]⟩
abbrev S1x3x1152 : Shape := ⟨3, ![1, 3, 1152]⟩
abbrev S1x8x3x1152 : Shape := ⟨4, ![1, 8, 3, 1152]⟩
abbrev S4x32x1152 : Shape := ⟨3, ![4, 32, 1152]⟩
abbrev S1x1152 : Shape := ⟨2, ![1, 1152]⟩
abbrev S8x128 : Shape := ⟨2, ![8, 128]⟩
abbrev S128 : Shape := ⟨1, ![128]⟩
abbrev S1x128 : Shape := ⟨2, ![1, 128]⟩
abbrev S128x1 : Shape := ⟨2, ![128, 1]⟩
abbrev S32x1 : Shape := ⟨2, ![32, 1]⟩
abbrev S32x128 : Shape := ⟨2, ![32, 128]⟩
abbrev S1x32x128 : Shape := ⟨3, ![1, 32, 128]⟩
abbrev S32 : Shape := ⟨1, ![32]⟩
abbrev S3x128 : Shape := ⟨2, ![3, 128]⟩
abbrev S1x1x3x128 : Shape := ⟨4, ![1, 1, 3, 128]⟩
abbrev S8x3x1152 : Shape := ⟨3, ![8, 3, 1152]⟩
abbrev S3x1152 : Shape := ⟨2, ![3, 1152]⟩

abbrev nBuf : Space → Nat
  | .hbm => 12
  | .vmem => 25
  | .smem => 0
  | _ => 0

abbrev bufTy : (tb : Table) → Fin (tcTables nBuf tb) → BufTy
  | .hbm, ⟨0, _⟩ => ⟨S64x1024x1152, .fp8e4m3⟩
  | .hbm, ⟨1, _⟩ => ⟨S64x1024, .f32⟩
  | .hbm, ⟨2, _⟩ => ⟨S64x1024x1152, .bf16⟩
  | .hbm, ⟨3, _⟩ => ⟨S64x1024x1152, .fp8e5m2⟩
  | .hbm, ⟨4, _⟩ => ⟨S64x1024, .f32⟩
  | .hbm, ⟨5, _⟩ => ⟨S64x1024x1152, .fp8e5m2⟩
  | .hbm, ⟨6, _⟩ => ⟨S64x1024, .f32⟩
  | .hbm, ⟨7, _⟩ => ⟨S64x1152, .f32⟩
  | .hbm, ⟨8, _⟩ => ⟨S64x3x1152, .f32⟩
  | .hbm, ⟨9, _⟩ => ⟨S64x8x3x1152, .f32⟩
  | .hbm, ⟨10, _⟩ => ⟨S64x1024x1152, .fp8e5m2⟩
  | .hbm, ⟨11, _⟩ => ⟨S64x1024, .f32⟩
  | .local _ .vmem, ⟨0, _⟩ => ⟨S1x1024x1152, .fp8e4m3⟩
  | .local _ .vmem, ⟨1, _⟩ => ⟨S1x1024x1152, .fp8e4m3⟩
  | .local _ .vmem, ⟨2, _⟩ => ⟨S8x1024, .f32⟩
  | .local _ .vmem, ⟨3, _⟩ => ⟨S8x1024, .f32⟩
  | .local _ .vmem, ⟨4, _⟩ => ⟨S1x1024x1152, .bf16⟩
  | .local _ .vmem, ⟨5, _⟩ => ⟨S1x1024x1152, .bf16⟩
  | .local _ .vmem, ⟨6, _⟩ => ⟨S1x1024x1152, .fp8e5m2⟩
  | .local _ .vmem, ⟨7, _⟩ => ⟨S1x1024x1152, .fp8e5m2⟩
  | .local _ .vmem, ⟨8, _⟩ => ⟨S8x1024, .f32⟩
  | .local _ .vmem, ⟨9, _⟩ => ⟨S8x1024, .f32⟩
  | .local _ .vmem, ⟨10, _⟩ => ⟨S1x1024x1152, .fp8e5m2⟩
  | .local _ .vmem, ⟨11, _⟩ => ⟨S1x1024x1152, .fp8e5m2⟩
  | .local _ .vmem, ⟨12, _⟩ => ⟨S8x1024, .f32⟩
  | .local _ .vmem, ⟨13, _⟩ => ⟨S8x1024, .f32⟩
  | .local _ .vmem, ⟨14, _⟩ => ⟨S8x1152, .f32⟩
  | .local _ .vmem, ⟨15, _⟩ => ⟨S8x1152, .f32⟩
  | .local _ .vmem, ⟨16, _⟩ => ⟨S1x3x1152, .f32⟩
  | .local _ .vmem, ⟨17, _⟩ => ⟨S1x3x1152, .f32⟩
  | .local _ .vmem, ⟨18, _⟩ => ⟨S1x8x3x1152, .f32⟩
  | .local _ .vmem, ⟨19, _⟩ => ⟨S1x8x3x1152, .f32⟩
  | .local _ .vmem, ⟨20, _⟩ => ⟨S1x1024x1152, .fp8e5m2⟩
  | .local _ .vmem, ⟨21, _⟩ => ⟨S1x1024x1152, .fp8e5m2⟩
  | .local _ .vmem, ⟨22, _⟩ => ⟨S8x1024, .f32⟩
  | .local _ .vmem, ⟨23, _⟩ => ⟨S8x1024, .f32⟩
  | .local _ .vmem, ⟨24, _⟩ => ⟨S4x32x1152, .f32⟩
  | _, _ => ⟨S64x1024x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : Index := Scalar.indexCast v9
  let c0 : Index := 0#32
  ![v10.toNat, 0]
@[reducible] def k0_t1_loop : Scf.Loop 32 :=
  let c0_i32_3 : BitVec 32 := 0#32
  let c8_i32_4 : BitVec 32 := 8#32
  let v17 : BitVec 32 := Scalar.addi c0_i32_3 c8_i32_4
  let c1_i32_5 : BitVec 32 := 1#32
  ⟨c0_i32_3, v17, c1_i32_5⟩
def k0_mult1 (k0_t1 : Fin k0_t1_loop.trips) : BitVec 32 :=
  let c0_i32_3 : BitVec 32 := 0#32
  let c1_i32_5 : BitVec 32 := 1#32
  let arg14 : BitVec 32 := Scf.iv c0_i32_3 c1_i32_5 k0_t1
  let c128_i32 : BitVec 32 := 128#32
  let v24 : BitVec 32 := Scalar.muli arg14 c128_i32
  v24
def k0_off2 (k0_t1 : Fin k0_t1_loop.trips) : Fin 2 → Nat :=
  let c0_42 : Index := 0#32
  let c0_i32_3 : BitVec 32 := 0#32
  let c1_i32_5 : BitVec 32 := 1#32
  let arg14 : BitVec 32 := Scf.iv c0_i32_3 c1_i32_5 k0_t1
  let c128_i32 : BitVec 32 := 128#32
  let v24 : BitVec 32 := Scalar.muli arg14 c128_i32
  let v25 : BitVec 32 := v24
  let v53 : Index := Scalar.indexCast v25
  ![0, v53.toNat]
def k0_mult2 (k0_t1 : Fin k0_t1_loop.trips) : BitVec 32 :=
  let c0_i32_3 : BitVec 32 := 0#32
  let c1_i32_5 : BitVec 32 := 1#32
  let arg14 : BitVec 32 := Scf.iv c0_i32_3 c1_i32_5 k0_t1
  let c128_i32 : BitVec 32 := 128#32
  let v24 : BitVec 32 := Scalar.muli arg14 c128_i32
  let c0_i32_51 : BitVec 32 := 0#32
  let v74 : BitVec 32 := Scalar.addi v24 c0_i32_51
  v74
def k0_off3 (k0_t1 : Fin k0_t1_loop.trips) (c0_i32_51 : BitVec 32) : Fin 3 → Nat :=
  let c0_53 : Index := 0#32
  let c0_i32_3 : BitVec 32 := 0#32
  let c1_i32_5 : BitVec 32 := 1#32
  let arg14 : BitVec 32 := Scf.iv c0_i32_3 c1_i32_5 k0_t1
  let c128_i32 : BitVec 32 := 128#32
  let v24 : BitVec 32 := Scalar.muli arg14 c128_i32
  let v74 : BitVec 32 := Scalar.addi v24 c0_i32_51
  let v75 : BitVec 32 := v74
  let v80 : Index := Scalar.indexCast v75
  let c0_54 : Index := 0#32
  ![0, v80.toNat, 0]
def k0_off4 (k0_t1 : Fin k0_t1_loop.trips) (c0_i32_51 : BitVec 32) : Fin 3 → Nat :=
  let c0_55 : Index := 0#32
  let c0_i32_3 : BitVec 32 := 0#32
  let c1_i32_5 : BitVec 32 := 1#32
  let arg14 : BitVec 32 := Scf.iv c0_i32_3 c1_i32_5 k0_t1
  let c128_i32 : BitVec 32 := 128#32
  let v24 : BitVec 32 := Scalar.muli arg14 c128_i32
  let v74 : BitVec 32 := Scalar.addi v24 c0_i32_51
  let v75 : BitVec 32 := v74
  let v85 : Index := Scalar.indexCast v75
  let c128 : Index := 128#32
  ![0, v85.toNat, 128]
def k0_off5 (k0_t1 : Fin k0_t1_loop.trips) (c0_i32_51 : BitVec 32) : Fin 3 → Nat :=
  let c0_56 : Index := 0#32
  let c0_i32_3 : BitVec 32 := 0#32
  let c1_i32_5 : BitVec 32 := 1#32
  let arg14 : BitVec 32 := Scf.iv c0_i32_3 c1_i32_5 k0_t1
  let c128_i32 : BitVec 32 := 128#32
  let v24 : BitVec 32 := Scalar.muli arg14 c128_i32
  let v74 : BitVec 32 := Scalar.addi v24 c0_i32_51
  let v75 : BitVec 32 := v74
  let v90 : Index := Scalar.indexCast v75
  let c256 : Index := 256#32
  ![0, v90.toNat, 256]
def k0_off6 (k0_t1 : Fin k0_t1_loop.trips) (c0_i32_51 : BitVec 32) : Fin 3 → Nat :=
  let c0_57 : Index := 0#32
  let c0_i32_3 : BitVec 32 := 0#32
  let c1_i32_5 : BitVec 32 := 1#32
  let arg14 : BitVec 32 := Scf.iv c0_i32_3 c1_i32_5 k0_t1
  let c128_i32 : BitVec 32 := 128#32
  let v24 : BitVec 32 := Scalar.muli arg14 c128_i32
  let v74 : BitVec 32 := Scalar.addi v24 c0_i32_51
  let v75 : BitVec 32 := v74
  let v95 : Index := Scalar.indexCast v75
  let c384 : Index := 384#32
  ![0, v95.toNat, 384]
def k0_off7 (k0_t1 : Fin k0_t1_loop.trips) (c0_i32_51 : BitVec 32) : Fin 3 → Nat :=
  let c0_58 : Index := 0#32
  let c0_i32_3 : BitVec 32 := 0#32
  let c1_i32_5 : BitVec 32 := 1#32
  let arg14 : BitVec 32 := Scf.iv c0_i32_3 c1_i32_5 k0_t1
  let c128_i32 : BitVec 32 := 128#32
  let v24 : BitVec 32 := Scalar.muli arg14 c128_i32
  let v74 : BitVec 32 := Scalar.addi v24 c0_i32_51
  let v75 : BitVec 32 := v74
  let v100 : Index := Scalar.indexCast v75
  let c512 : Index := 512#32
  ![0, v100.toNat, 512]
def k0_off8 (k0_t1 : Fin k0_t1_loop.trips) (c0_i32_51 : BitVec 32) : Fin 3 → Nat :=
  let c0_59 : Index := 0#32
  let c0_i32_3 : BitVec 32 := 0#32
  let c1_i32_5 : BitVec 32 := 1#32
  let arg14 : BitVec 32 := Scf.iv c0_i32_3 c1_i32_5 k0_t1
  let c128_i32 : BitVec 32 := 128#32
  let v24 : BitVec 32 := Scalar.muli arg14 c128_i32
  let v74 : BitVec 32 := Scalar.addi v24 c0_i32_51
  let v75 : BitVec 32 := v74
  let v105 : Index := Scalar.indexCast v75
  let c640 : Index := 640#32
  ![0, v105.toNat, 640]
def k0_off9 (k0_t1 : Fin k0_t1_loop.trips) (c0_i32_51 : BitVec 32) : Fin 3 → Nat :=
  let c0_60 : Index := 0#32
  let c0_i32_3 : BitVec 32 := 0#32
  let c1_i32_5 : BitVec 32 := 1#32
  let arg14 : BitVec 32 := Scf.iv c0_i32_3 c1_i32_5 k0_t1
  let c128_i32 : BitVec 32 := 128#32
  let v24 : BitVec 32 := Scalar.muli arg14 c128_i32
  let v74 : BitVec 32 := Scalar.addi v24 c0_i32_51
  let v75 : BitVec 32 := v74
  let v110 : Index := Scalar.indexCast v75
  let c768 : Index := 768#32
  ![0, v110.toNat, 768]
def k0_off10 (k0_t1 : Fin k0_t1_loop.trips) (c0_i32_51 : BitVec 32) : Fin 3 → Nat :=
  let c0_61 : Index := 0#32
  let c0_i32_3 : BitVec 32 := 0#32
  let c1_i32_5 : BitVec 32 := 1#32
  let arg14 : BitVec 32 := Scf.iv c0_i32_3 c1_i32_5 k0_t1
  let c128_i32 : BitVec 32 := 128#32
  let v24 : BitVec 32 := Scalar.muli arg14 c128_i32
  let v74 : BitVec 32 := Scalar.addi v24 c0_i32_51
  let v75 : BitVec 32 := v74
  let v115 : Index := Scalar.indexCast v75
  let c896 : Index := 896#32
  ![0, v115.toNat, 896]
def k0_off11 (k0_t1 : Fin k0_t1_loop.trips) (c0_i32_51 : BitVec 32) : Fin 3 → Nat :=
  let c0_62 : Index := 0#32
  let c0_i32_3 : BitVec 32 := 0#32
  let c1_i32_5 : BitVec 32 := 1#32
  let arg14 : BitVec 32 := Scf.iv c0_i32_3 c1_i32_5 k0_t1
  let c128_i32 : BitVec 32 := 128#32
  let v24 : BitVec 32 := Scalar.muli arg14 c128_i32
  let v74 : BitVec 32 := Scalar.addi v24 c0_i32_51
  let v75 : BitVec 32 := v74
  let v120 : Index := Scalar.indexCast v75
  let c1024 : Index := 1024#32
  ![0, v120.toNat, 1024]
def k0_mult3 (k0_t1 : Fin k0_t1_loop.trips) : BitVec 32 :=
  let c0_i32_3 : BitVec 32 := 0#32
  let c1_i32_5 : BitVec 32 := 1#32
  let arg14 : BitVec 32 := Scf.iv c0_i32_3 c1_i32_5 k0_t1
  let c128_i32 : BitVec 32 := 128#32
  let v24 : BitVec 32 := Scalar.muli arg14 c128_i32
  let c32_i32 : BitVec 32 := 32#32
  let v1148 : BitVec 32 := Scalar.addi v24 c32_i32
  v1148
def k0_mult4 (k0_t1 : Fin k0_t1_loop.trips) : BitVec 32 :=
  let c0_i32_3 : BitVec 32 := 0#32
  let c1_i32_5 : BitVec 32 := 1#32
  let arg14 : BitVec 32 := Scf.iv c0_i32_3 c1_i32_5 k0_t1
  let c128_i32 : BitVec 32 := 128#32
  let v24 : BitVec 32 := Scalar.muli arg14 c128_i32
  let c64_i32 : BitVec 32 := 64#32
  let v2222 : BitVec 32 := Scalar.addi v24 c64_i32
  v2222
def k0_mult5 (k0_t1 : Fin k0_t1_loop.trips) : BitVec 32 :=
  let c0_i32_3 : BitVec 32 := 0#32
  let c1_i32_5 : BitVec 32 := 1#32
  let arg14 : BitVec 32 := Scf.iv c0_i32_3 c1_i32_5 k0_t1
  let c128_i32 : BitVec 32 := 128#32
  let v24 : BitVec 32 := Scalar.muli arg14 c128_i32
  let c96_i32 : BitVec 32 := 96#32
  let v3296 : BitVec 32 := Scalar.addi v24 c96_i32
  v3296
def k0_off12 (k0_t1 : Fin k0_t1_loop.trips) : Fin 4 → Nat :=
  let c0_1104 : Index := 0#32
  let c0_i32_3 : BitVec 32 := 0#32
  let c1_i32_5 : BitVec 32 := 1#32
  let arg14 : BitVec 32 := Scf.iv c0_i32_3 c1_i32_5 k0_t1
  let v4387 : Index := Scalar.indexCast arg14
  let c0_1105 : Index := 0#32
  let c0_1106 : Index := 0#32
  ![0, v4387.toNat, 0, 0]
def k0_off13 (k0_t1 : Fin k0_t1_loop.trips) : Fin 4 → Nat :=
  let c0_1110 : Index := 0#32
  let c0_i32_3 : BitVec 32 := 0#32
  let c1_i32_5 : BitVec 32 := 1#32
  let arg14 : BitVec 32 := Scf.iv c0_i32_3 c1_i32_5 k0_t1
  let v4398 : Index := Scalar.indexCast arg14
  let c0_1111 : Index := 0#32
  let c128_1112 : Index := 128#32
  ![0, v4398.toNat, 0, 128]
def k0_off14 (k0_t1 : Fin k0_t1_loop.trips) : Fin 4 → Nat :=
  let c0_1116 : Index := 0#32
  let c0_i32_3 : BitVec 32 := 0#32
  let c1_i32_5 : BitVec 32 := 1#32
  let arg14 : BitVec 32 := Scf.iv c0_i32_3 c1_i32_5 k0_t1
  let v4409 : Index := Scalar.indexCast arg14
  let c0_1117 : Index := 0#32
  let c256_1118 : Index := 256#32
  ![0, v4409.toNat, 0, 256]
def k0_off15 (k0_t1 : Fin k0_t1_loop.trips) : Fin 4 → Nat :=
  let c0_1122 : Index := 0#32
  let c0_i32_3 : BitVec 32 := 0#32
  let c1_i32_5 : BitVec 32 := 1#32
  let arg14 : BitVec 32 := Scf.iv c0_i32_3 c1_i32_5 k0_t1
  let v4420 : Index := Scalar.indexCast arg14
  let c0_1123 : Index := 0#32
  let c384_1124 : Index := 384#32
  ![0, v4420.toNat, 0, 384]
def k0_off16 (k0_t1 : Fin k0_t1_loop.trips) : Fin 4 → Nat :=
  let c0_1128 : Index := 0#32
  let c0_i32_3 : BitVec 32 := 0#32
  let c1_i32_5 : BitVec 32 := 1#32
  let arg14 : BitVec 32 := Scf.iv c0_i32_3 c1_i32_5 k0_t1
  let v4431 : Index := Scalar.indexCast arg14
  let c0_1129 : Index := 0#32
  let c512_1130 : Index := 512#32
  ![0, v4431.toNat, 0, 512]
def k0_off17 (k0_t1 : Fin k0_t1_loop.trips) : Fin 4 → Nat :=
  let c0_1134 : Index := 0#32
  let c0_i32_3 : BitVec 32 := 0#32
  let c1_i32_5 : BitVec 32 := 1#32
  let arg14 : BitVec 32 := Scf.iv c0_i32_3 c1_i32_5 k0_t1
  let v4442 : Index := Scalar.indexCast arg14
  let c0_1135 : Index := 0#32
  let c640_1136 : Index := 640#32
  ![0, v4442.toNat, 0, 640]
def k0_off18 (k0_t1 : Fin k0_t1_loop.trips) : Fin 4 → Nat :=
  let c0_1140 : Index := 0#32
  let c0_i32_3 : BitVec 32 := 0#32
  let c1_i32_5 : BitVec 32 := 1#32
  let arg14 : BitVec 32 := Scf.iv c0_i32_3 c1_i32_5 k0_t1
  let v4453 : Index := Scalar.indexCast arg14
  let c0_1141 : Index := 0#32
  let c768_1142 : Index := 768#32
  ![0, v4453.toNat, 0, 768]
def k0_off19 (k0_t1 : Fin k0_t1_loop.trips) : Fin 4 → Nat :=
  let c0_1146 : Index := 0#32
  let c0_i32_3 : BitVec 32 := 0#32
  let c1_i32_5 : BitVec 32 := 1#32
  let arg14 : BitVec 32 := Scf.iv c0_i32_3 c1_i32_5 k0_t1
  let v4464 : Index := Scalar.indexCast arg14
  let c0_1147 : Index := 0#32
  let c896_1148 : Index := 896#32
  ![0, v4464.toNat, 0, 896]
def k0_off20 (k0_t1 : Fin k0_t1_loop.trips) : Fin 4 → Nat :=
  let c0_1152 : Index := 0#32
  let c0_i32_3 : BitVec 32 := 0#32
  let c1_i32_5 : BitVec 32 := 1#32
  let arg14 : BitVec 32 := Scf.iv c0_i32_3 c1_i32_5 k0_t1
  let v4475 : Index := Scalar.indexCast arg14
  let c0_1153 : Index := 0#32
  let c1024_1154 : Index := 1024#32
  ![0, v4475.toNat, 0, 1024]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S1x1024x1152 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1152 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1152 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x3x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x1152 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "inv_d" => some ((1 / 1152 : ℝ) : EReal)
  | _ => none
-- ==== ReferenceIdeal.lean ====
abbrev S64x1024x1152 : Shape := ⟨3, ![64, 1024, 1152]⟩
abbrev S64x1024 : Shape := ⟨2, ![64, 1024]⟩
abbrev S64x1152 : Shape := ⟨2, ![64, 1152]⟩
abbrev S64x3x1152 : Shape := ⟨3, ![64, 3, 1152]⟩
abbrev S64x8x3x1152 : Shape := ⟨4, ![64, 8, 3, 1152]⟩
abbrev S64x1024x1 : Shape := ⟨3, ![64, 1024, 1]⟩
abbrev S64x8x128x1152 : Shape := ⟨4, ![64, 8, 128, 1152]⟩
abbrev S64x8x1152 : Shape := ⟨3, ![64, 8, 1152]⟩
abbrev S64x8x1x1152 : Shape := ⟨4, ![64, 8, 1, 1152]⟩
abbrev S64x1x1152 : Shape := ⟨3, ![64, 1, 1152]⟩

abbrev nBuf : Space → Nat
  | .hbm => 12
  | .vmem => 12
  | .smem => 0
  | _ => 0

abbrev bufTy : (tb : Table) → Fin (tcTables nBuf tb) → BufTy
  | .hbm, ⟨0, _⟩ => ⟨S64x1024x1152, .fp8e4m3⟩
  | .hbm, ⟨1, _⟩ => ⟨S64x1024, .f32⟩
  | .hbm, ⟨2, _⟩ => ⟨S64x1024x1152, .bf16⟩
  | .hbm, ⟨3, _⟩ => ⟨S64x1024x1152, .fp8e5m2⟩
  | .hbm, ⟨4, _⟩ => ⟨S64x1024, .f32⟩
  | .hbm, ⟨5, _⟩ => ⟨S64x1024x1152, .fp8e5m2⟩
  | .hbm, ⟨6, _⟩ => ⟨S64x1024, .f32⟩
  | .hbm, ⟨7, _⟩ => ⟨S64x1152, .f32⟩
  | .hbm, ⟨8, _⟩ => ⟨S64x3x1152, .f32⟩
  | .hbm, ⟨9, _⟩ => ⟨S64x8x3x1152, .f32⟩
  | .hbm, ⟨10, _⟩ => ⟨S64x1024x1152, .fp8e5m2⟩
  | .hbm, ⟨11, _⟩ => ⟨S64x1024, .f32⟩
  | .local _ .vmem, ⟨0, _⟩ => ⟨S64x1024x1152, .fp8e4m3⟩
  | .local _ .vmem, ⟨1, _⟩ => ⟨S64x1024, .f32⟩
  | .local _ .vmem, ⟨2, _⟩ => ⟨S64x1024x1152, .bf16⟩
  | .local _ .vmem, ⟨3, _⟩ => ⟨S64x1024x1152, .fp8e5m2⟩
  | .local _ .vmem, ⟨4, _⟩ => ⟨S64x1024, .f32⟩
  | .local _ .vmem, ⟨5, _⟩ => ⟨S64x1024x1152, .fp8e5m2⟩
  | .local _ .vmem, ⟨6, _⟩ => ⟨S64x1024, .f32⟩
  | .local _ .vmem, ⟨7, _⟩ => ⟨S64x1152, .f32⟩
  | .local _ .vmem, ⟨8, _⟩ => ⟨S64x3x1152, .f32⟩
  | .local _ .vmem, ⟨9, _⟩ => ⟨S64x8x3x1152, .f32⟩
  | .local _ .vmem, ⟨10, _⟩ => ⟨S64x1024x1152, .fp8e5m2⟩
  | .local _ .vmem, ⟨11, _⟩ => ⟨S64x1024, .f32⟩
  | _, _ => ⟨S64x1024x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S64x1024x1152 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024x1152 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1024x1152 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1152 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x3x1152 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x8x3x1152 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1024x1152 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KernelFrame.lean ====
/- The frame of the kernel, at any reading of the floats: it runs without fault, leaves its arguments unchanged and every semaphore
   counter at zero. Nothing is said of what it leaves in its results: they are forgotten, since the block of scales is read
   before it is written. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

-- membership in a rectangle of production extents (`View.cover_of_tiled`): the elaborator's structural look
-- recurses once per coordinate of the long axes
set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x1024x1152 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1152 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1152 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1152 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x1152 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x3x1152 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x3x1152 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024x1152 .fp8e5m2 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x1024 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S4x32x1152 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: checking it walks past the default budget)
set_option maxHeartbeats 1000000 in
/-- The body's triple: on whole staging memrefs — the inputs' at their contents,
    the FORGOTTEN outputs' (8, 9, 10, 11) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S1x1024x1152 .fp8e4m3) (harg1 : arg1.IsWhole) (arg2 : Memref sig .tc .vmem S8x1024 .f32) (harg2 : arg2.IsWhole) (arg3 : Memref sig .tc .vmem S1x1024x1152 .bf16) (harg3 : arg3.IsWhole) (arg4 : Memref sig .tc .vmem S1x1024x1152 .fp8e5m2) (harg4 : arg4.IsWhole) (arg5 : Memref sig .tc .vmem S8x1024 .f32) (harg5 : arg5.IsWhole) (arg6 : Memref sig .tc .vmem S1x1024x1152 .fp8e5m2) (harg6 : arg6.IsWhole) (arg7 : Memref sig .tc .vmem S8x1024 .f32) (harg7 : arg7.IsWhole) (arg8 : Memref sig .tc .vmem S8x1152 .f32) (harg8 : arg8.IsWhole) (arg9 : Memref sig .tc .vmem S1x3x1152 .f32) (harg9 : arg9.IsWhole) (arg10 : Memref sig .tc .vmem S1x8x3x1152 .f32) (harg10 : arg10.IsWhole) (arg11 : Memref sig .tc .vmem S1x1024x1152 .fp8e5m2) (harg11 : arg11.IsWhole) (arg12 : Memref sig .tc .vmem S8x1024 .f32) (harg12 : arg12.IsWhole) (arg13 : Memref sig .tc .vmem S4x32x1152 .f32) (harg13 : arg13.IsWhole)
    (x0 : Vec F S1x1024x1152 .fp8e4m3) (x1 : Vec F S8x1024 .f32) (x2 : Vec F S1x1024x1152 .bf16) (x3 : Vec F S1x1024x1152 .fp8e5m2) (x4 : Vec F S8x1024 .f32) (x5 : Vec F S1x1024x1152 .fp8e5m2) (x6 : Vec F S8x1024 .f32) (x7 : Vec F S8x1152 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_adaln_bwd i arg1 harg1 arg2 harg2 arg3 harg3 arg4 harg4 arg5 harg5 arg6 harg6 arg7 harg7 arg8 harg8 arg9 harg9 arg10 harg10 arg11 harg11 arg12 harg12 arg13 harg13) K := by
    intro E K
    simp only [cc0_adaln_bwd_eq_skeleton]; unfold cc0_adaln_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact HS0
    ipureintro; rfl

/-! ## The pipeline's proof data -/

/-- The output windows this certificate FORGETS (8, 9, 10, 11): nothing reads what the kernel leaves in them, so nothing
    of it is named (Lib/Pipeline/Dat.lean `Dat.toRForget`). -/
def forgets0 : Fin 12 → Bool := fun w => w.val == 8 || w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  iintro ⟨H0, H1, H2, H3, H4, H5, H6, H7, H8, H9, H10, H11, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_Kernel`'s statement (Defs.lean) at any `F` -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Whole

end
-- ==== Proof.Group.lean ====
/- What one trip of the kernel's loop computes, written once for a group of 32 tokens and a chunk of 128 columns. The
   printed loop body is unrolled: four groups, nine chunks each. Here the same operations, in the same order, stand as
   functions of the group's inputs and of the chunk's number, so that one lemma serves every group and chunk.
   `Trip.lean` shows that the stores of the printed body are exactly these functions. -/
module

public import proofs.«01_k».proof.Proof.Gen.KernelIdeal.Loops

@[expose] public section

set_option maxRecDepth 16384

noncomputable section

namespace Cert.KernelIdeal.Group

open Idealize.ShloMosaic Idealize.SL.Sem Cert.KernelIdeal.Gen

variable {F : FTy → Type} [FloatOps F] [Named F]

/-- A scalar at every place of a group's chunk, and at every token of it. -/
abbrev full (b : BitVec 32) : FVec F S32x128 .f32 := broadcast S32x128 (Scalar.ofBits .f32 b)
abbrev full1 (b : BitVec 32) : FVec F S32x1 .f32 := broadcast S32x1 (Scalar.ofBits .f32 b)
/-- A number per token, at every column of the chunk. -/
abbrev wide (v : FVec F S32x1 .f32) : FVec F S32x128 .f32 := broadcastTo S32x128 v broadcasts_S32x1_S32x128
/-- The sum over nine chunks, from zero, in the chunks' order. -/
def add9 (v : Fin 9 → FVec F S32x128 .f32) : FVec F S32x128 .f32 :=
  addf (addf (addf (addf (addf (addf (addf (addf (addf (full 0#32) (v 0)) (v 1)) (v 2)) (v 3)) (v 4)) (v 5)) (v 6)) (v 7)) (v 8)
/-- The maximum over nine chunks, from zero. -/
def max9 (v : Fin 9 → FVec F S32x128 .f32) : FVec F S32x128 .f32 :=
  maximumf (maximumf (maximumf (maximumf (maximumf (maximumf (maximumf (maximumf (maximumf (full 0#32) (v 0)) (v 1)) (v 2)) (v 3)) (v 4)) (v 5)) (v 6)) (v 7)) (v 8)
/-- The sum of a token's 128 lanes. -/
def lanes (v : FVec F S32x128 .f32) : FVec F S32x1 .f32 :=
  shapeCast S32x1 (multiReduction .add [1] S32 v 0x00000000#32 reduces_S32x128_S32 (.inl rfl) rfl) shapeCasts_S32_S32x1
/-- The mean over a token's 1152 columns, of nine chunks already summed. -/
def mean (v : FVec F S32x128 .f32) : FVec F S32x1 .f32 :=
  mulf (lanes v) (broadcast S32x1 (Named.named κ "inv_d" 0x3A638E39#32))
/-- A chunk of the codes, as numbers. -/
def codes {φ : FTy} (v : FVec F S1x32x128 φ) (h : φ.bits < FTy.bits .f32) : FVec F S32x128 .f32 :=
  extf .f32 (shapeCast S32x128 v shapeCasts_S1x32x128_S32x128 : FVec F S32x128 φ) h

/- The inputs of a group of 32 tokens: by chunk of 128 columns the codes of `x`, the feature `f` and the codes of the two
   gradients, by token the three scales, and by column the modulation (one more than the stored one). -/
variable (x : Fin 9 → Vec F S1x32x128 .fp8e4m3) (f : Fin 9 → Vec F S1x32x128 .bf16)
  (y : Fin 9 → Vec F S1x32x128 .fp8e5m2) (h : Fin 9 → Vec F S1x32x128 .fp8e5m2)
  (xs ys hs : FVec F S32x1 .f32) (m : FVec F S1x1152 .f32)

def cx8 (j : Fin 9) : FVec F S32x128 .f32 := codes (φ := .fp8e4m3) (x j) bitsLt_fp8e4m3_f32
def ch8 (j : Fin 9) : FVec F S32x128 .f32 := codes (φ := .fp8e5m2) (h j) bitsLt_fp8e5m2_f32
def cy8 (j : Fin 9) : FVec F S32x128 .f32 := codes (φ := .fp8e5m2) (y j) bitsLt_fp8e5m2_f32
def cf16 (j : Fin 9) : FVec F S32x128 .f32 := codes (φ := .bf16) (f j) bitsLt_bf16_f32

/-- The mean of the codes of `x`. -/
def mu : FVec F S32x1 .f32 := mean (add9 (cx8 x))
def dev (j : Fin 9) : FVec F S32x128 .f32 := subf (cx8 x j) (wide (mu x))
/-- The reciprocal standard deviation of `x`: the codes' variance times the scale squared. -/
def rstd : FVec F S32x1 .f32 :=
  rsqrt (addf (mulf (mean (add9 fun j => mulf (dev x j) (dev x j))) (mulf xs xs)) (full1 0x358637BD#32))
def xr : FVec F S32x1 .f32 := mulf xs (rstd x xs)
def xhat (j : Fin 9) : FVec F S32x128 .f32 := mulf (dev x j) (wide (xr x xs))
def dh (j : Fin 9) : FVec F S32x128 .f32 := mulf (ch8 h j) (wide hs)
def pr (j : Fin 9) : FVec F S32x128 .f32 := mulf (dh h hs j) (xhat x xs j)
def mc0 : (j : Fin 9) → FVec F S1x128 .f32
  | 0 => extractStridedSlice S1x128 ![0, 0] m slices_S1x1152_o0_0_S1x128
  | 1 => extractStridedSlice S1x128 ![0, 128] m slices_S1x1152_o0_128_S1x128
  | 2 => extractStridedSlice S1x128 ![0, 256] m slices_S1x1152_o0_256_S1x128
  | 3 => extractStridedSlice S1x128 ![0, 384] m slices_S1x1152_o0_384_S1x128
  | 4 => extractStridedSlice S1x128 ![0, 512] m slices_S1x1152_o0_512_S1x128
  | 5 => extractStridedSlice S1x128 ![0, 640] m slices_S1x1152_o0_640_S1x128
  | 6 => extractStridedSlice S1x128 ![0, 768] m slices_S1x1152_o0_768_S1x128
  | 7 => extractStridedSlice S1x128 ![0, 896] m slices_S1x1152_o0_896_S1x128
  | 8 => extractStridedSlice S1x128 ![0, 1024] m slices_S1x1152_o0_1024_S1x128
def mc (j : Fin 9) : FVec F S32x128 .f32 := broadcastTo S32x128 (mc0 m j) broadcasts_S1x128_S32x128
def mg : FVec F S32x1 .f32 := mean (add9 fun j => mulf (dh h hs j) (mc m j))
def mgx : FVec F S32x1 .f32 := mean (add9 fun j => mulf (pr x h xs hs j) (mc m j))
def ca : FVec F S32x1 .f32 := mulf hs (rstd x xs)
def cx : FVec F S32x1 .f32 := mulf (xr x xs) (mulf (mgx x h xs hs m) (rstd x xs))
def off : FVec F S32x1 .f32 := subf (mulf (rstd x xs) (mg h hs m)) (mulf (cx x h xs hs m) (mu x))
def dy (j : Fin 9) : FVec F S32x128 .f32 := mulf (cy8 y j) (wide ys)
def pf (j : Fin 9) : FVec F S32x128 .f32 := mulf (dy y ys j) (cf16 f j)
/-- The gradient of `x`, before it is quantised. -/
def dx (j : Fin 9) : FVec F S32x128 .f32 :=
  addf (dy y ys j) (subf (subf (mulf (mulf (ch8 h j) (mc m j)) (wide (ca x xs hs))) (mulf (cx8 x j) (wide (cx x h xs hs m)))) (wide (off x h xs hs m)))
/-- A token's largest gradient over 57344. -/
def ratio : FVec F S32x1 .f32 :=
  mulf (shapeCast S32x1 (multiReduction .maximumf [1] S32 (max9 fun j => absf (dx x y h xs ys hs m j)) 0xFF800000#32 reduces_S32x128_S32 (.inl rfl) rfl)
    shapeCasts_S32_S32x1) (full1 0x37924925#32)

/-- One step of the search for the exponent field: keep the bit if the number is at least the pattern with it. -/
def step (r : FVec F S32x1 .f32) (b : BitVec 32) (field : IVec S32x1 32) : IVec S32x1 32 :=
  select (cmpf .oge r (bitcastToFloat .f32 (ori field (broadcast S32x1 b)))) (ori field (broadcast S32x1 b)) field
def field (r : FVec F S32x1 .f32) : IVec S32x1 32 :=
  select (cmpf .oge r (full1 0x7E800000#32)) (broadcast S32x1 2139095040#32)
    (step r 8388608#32 (step r 16777216#32 (step r 33554432#32 (step r 67108864#32 (step r 134217728#32
      (step r 268435456#32 (step r 536870912#32 (step r 1073741824#32 (broadcast S32x1 0#32)))))))))
def plain (e : IVec S32x1 32) : IVec S32x1 1 :=
  ori (cmpi .eq e (broadcast S32x1 0#32)) (cmpi .eq e (broadcast S32x1 2139095040#32))
/-- The scale, a power of two, and its inverse. -/
def scaleUp (r : FVec F S32x1 .f32) : FVec F S32x1 .f32 :=
  select (plain (field r)) (full1 0x3F800000#32) (bitcastToFloat .f32 (addi (field r) (broadcast S32x1 8388608#32)))
def scaleDown (r : FVec F S32x1 .f32) : FVec F S32x1 .f32 :=
  select (plain (field r)) (full1 0x3F800000#32) (bitcastToFloat .f32 (subi (broadcast S32x1 2122317824#32) (field r)))
def up : FVec F S32x1 .f32 := scaleUp (ratio x y h xs ys hs m)
def down : FVec F S32x1 .f32 := scaleDown (ratio x y h xs ys hs m)
/-- The quantised chunk, of the gradient read back from the scratch buffer. -/
def quant (d : FVec F S1x32x128 .f32) : FVec F S1x32x128 .fp8e5m2 :=
  shapeCast S1x32x128 (truncf .fp8e5m2 (minimumf (full 0x47600000#32) (maximumf (full 0xC7600000#32)
    (mulf (shapeCast S32x128 d shapeCasts_S1x32x128_S32x128) (wide (down x y h xs ys hs m))))) bitsLt_fp8e5m2_f32 : FVec F S32x128 .fp8e5m2)
    shapeCasts_S32x128_S1x32x128

/-- Four bands of eight tokens, added one after the other. -/
def bands (acc : FVec F S8x128 .f32) (v : FVec F S32x128 .f32) : FVec F S8x128 .f32 :=
  addf (addf (addf (addf acc (extractStridedSlice S8x128 ![0, 0] v slices_S32x128_o0_0_S8x128))
    (extractStridedSlice S8x128 ![8, 0] v slices_S32x128_o8_0_S8x128))
    (extractStridedSlice S8x128 ![16, 0] v slices_S32x128_o16_0_S8x128))
    (extractStridedSlice S8x128 ![24, 0] v slices_S32x128_o24_0_S8x128)
/-- The sum over a block's four groups, as a row. -/
def blockSum (v : Fin 4 → FVec F S32x128 .f32) : FVec F S1x128 .f32 :=
  shapeCast S1x128 (multiReduction .add [0] S128 (bands (bands (bands (bands
    (broadcast S8x128 (Scalar.ofBits .f32 0x00000000#32)) (v 0)) (v 1)) (v 2)) (v 3)) 0x00000000#32 reduces_S8x128_S128 (.inl rfl) rfl)
    shapeCasts_S128_S1x128

/-- A block's scales of one sequence, picked out of the eight stored together. -/
def pick (mine : IVec S8x128 1) (v : Vec F S8x128 .f32) : FVec F S128x1 .f32 :=
  shapeCast S128x1 (shapeCast S1x128 (multiReduction .add [0] S128 (select mine v (broadcast S8x128 (Scalar.ofBits .f32 0x00000000#32)) : FVec F S8x128 .f32)
    0x00000000#32 reduces_S8x128_S128 (.inl rfl) rfl) shapeCasts_S128_S1x128) shapeCasts_S1x128_S128x1
def part (v : FVec F S128x1 .f32) : Fin 4 → FVec F S32x1 .f32
  | 0 => extractStridedSlice S32x1 ![0, 0] v slices_S128x1_o0_0_S32x1
  | 1 => extractStridedSlice S32x1 ![32, 0] v slices_S128x1_o32_0_S32x1
  | 2 => extractStridedSlice S32x1 ![64, 0] v slices_S128x1_o64_0_S32x1
  | 3 => extractStridedSlice S32x1 ![96, 0] v slices_S128x1_o96_0_S32x1

/-- Where a chunk of a group lies in a buffer of 1024 tokens. -/
def offs (k : Fin k0_t1_loop.trips) : Fin 4 → Fin 9 → Fin 3 → Nat
  | 0, 0 => k0_off3 k 0#32
  | 0, 1 => k0_off4 k 0#32
  | 0, 2 => k0_off5 k 0#32
  | 0, 3 => k0_off6 k 0#32
  | 0, 4 => k0_off7 k 0#32
  | 0, 5 => k0_off8 k 0#32
  | 0, 6 => k0_off9 k 0#32
  | 0, 7 => k0_off10 k 0#32
  | 0, 8 => k0_off11 k 0#32
  | 1, 0 => k0_off3 k 32#32
  | 1, 1 => k0_off4 k 32#32
  | 1, 2 => k0_off5 k 32#32
  | 1, 3 => k0_off6 k 32#32
  | 1, 4 => k0_off7 k 32#32
  | 1, 5 => k0_off8 k 32#32
  | 1, 6 => k0_off9 k 32#32
  | 1, 7 => k0_off10 k 32#32
  | 1, 8 => k0_off11 k 32#32
  | 2, 0 => k0_off3 k 64#32
  | 2, 1 => k0_off4 k 64#32
  | 2, 2 => k0_off5 k 64#32
  | 2, 3 => k0_off6 k 64#32
  | 2, 4 => k0_off7 k 64#32
  | 2, 5 => k0_off8 k 64#32
  | 2, 6 => k0_off9 k 64#32
  | 2, 7 => k0_off10 k 64#32
  | 2, 8 => k0_off11 k 64#32
  | 3, 0 => k0_off3 k 96#32
  | 3, 1 => k0_off4 k 96#32
  | 3, 2 => k0_off5 k 96#32
  | 3, 3 => k0_off6 k 96#32
  | 3, 4 => k0_off7 k 96#32
  | 3, 5 => k0_off8 k 96#32
  | 3, 6 => k0_off9 k 96#32
  | 3, 7 => k0_off10 k 96#32
  | 3, 8 => k0_off11 k 96#32

theorem offs_eq : ∀ (k : Fin k0_t1_loop.trips) (g : Fin 4) (j : Fin 9), offs k g j = ![0, 128 * k.val + 32 * g.val, 128 * j.val] := by
  decide +kernel

theorem trips8 (k : Fin k0_t1_loop.trips) : k.val < 8 := Nat.lt_of_lt_of_le k.isLt k0_t1_abs.2.1

theorem offs_inb (k : Fin k0_t1_loop.trips) (g : Fin 4) (j : Fin 9) (a : Fin 3) : offs k g j a + S1x32x128.size a ≤ S1x1024x1152.size a := by
  rw [offs_eq]
  have := trips8 k; have := g.isLt; have := j.isLt
  fin_cases a <;> simp [S1x32x128, S1x1024x1152, Shape.size] <;> omega

/-- The rectangle of a chunk of a group. -/
abbrev rect (k : Fin k0_t1_loop.trips) (g : Fin 4) (j : Fin 9) : Rect S1x1024x1152 :=
  Rect.unit (offs k g j) S1x32x128.size (offs_inb k g j)

theorem offs13_inb (g : Fin 4) (j : Fin 9) (a : Fin 3) : (![g.val, 0, 128 * j.val] : Fin 3 → Nat) a + S1x32x128.size a ≤ S4x32x1152.size a := by
  have := g.isLt; have := j.isLt
  fin_cases a <;> simp [S1x32x128, S4x32x1152, Shape.size] <;> omega

/-- The rectangle of a chunk of a group in the scratch buffer. -/
abbrev rect13 (g : Fin 4) (j : Fin 9) : Rect S4x32x1152 := Rect.unit ![g.val, 0, 128 * j.val] S1x32x128.size (offs13_inb g j)

/-- Where a chunk of the sums of a block lies in the buffer of the blocks' sums. -/
def offs10 (k : Fin k0_t1_loop.trips) : Fin 9 → Fin 4 → Nat
  | 0 => k0_off12 k
  | 1 => k0_off13 k
  | 2 => k0_off14 k
  | 3 => k0_off15 k
  | 4 => k0_off16 k
  | 5 => k0_off17 k
  | 6 => k0_off18 k
  | 7 => k0_off19 k
  | 8 => k0_off20 k

theorem offs10_eq : ∀ (k : Fin k0_t1_loop.trips) (j : Fin 9), offs10 k j = ![0, k.val, 0, 128 * j.val] := by
  decide +kernel

theorem offs10_inb (k : Fin k0_t1_loop.trips) (j : Fin 9) (a : Fin 4) : offs10 k j a + S1x1x3x128.size a ≤ S1x8x3x1152.size a := by
  rw [offs10_eq]
  have := trips8 k; have := j.isLt
  fin_cases a <;> simp [S1x1x3x128, S1x8x3x1152, Shape.size] <;> omega

/-- The rectangle of a chunk of the sums of a block. -/
abbrev rect10 (k : Fin k0_t1_loop.trips) (j : Fin 9) : Rect S1x8x3x1152 := Rect.unit (offs10 k j) S1x1x3x128.size (offs10_inb k j)

/-- The rectangle of a block's scales. -/
abbrev rect2 (k : Fin k0_t1_loop.trips) : Rect S8x1024 := Rect.unit (k0_off2 k) S8x128.size (k0_off2_inb k)

/-- Three rows of sums over a block, as one store. -/
def sums3 (a b c : FVec F S1x128 .f32) : FVec F S1x1x3x128 .f32 :=
  shapeCast S1x1x3x128 (concatenate S3x128 0 [⟨S1x128, a⟩, ⟨S1x128, b⟩, ⟨S1x128, c⟩] concatenates_S1x128_S1x128_S1x128_S3x128_d0 : FVec F S3x128 .f32)
    shapeCasts_S3x128_S1x1x3x128

/-- A block's scales put into the row of the sequence, the other seven rows as they were. -/
def putRow (mine : IVec S8x128 1) (u : Fin 4 → FVec F S32x1 .f32) (old : FVec F S8x128 .f32) : FVec F S8x128 .f32 :=
  select mine (broadcastTo S8x128 (shapeCast S1x128 (shapeCast S1x128
    (concatenate S128x1 0 [⟨S32x1, u 0⟩, ⟨S32x1, u 1⟩, ⟨S32x1, u 2⟩, ⟨S32x1, u 3⟩] concatenates_S32x1_S32x1_S32x1_S32x1_S128x1_d0 : FVec F S128x1 .f32)
    shapeCasts_S128x1_S1x128) shapeCasts_S1x128_S1x128) broadcasts_S1x128_S8x128) old

end Cert.KernelIdeal.Group
-- ==== Proof.Trip.lean ====
/- The stores of one trip of the kernel's loop are the functions of `Group.lean`: the unrolled body, read group by group and
   chunk by chunk. -/
module

public import proofs.«01_k».proof.Proof.Group

@[expose] public section

set_option maxRecDepth 16384

noncomputable section

namespace Cert.KernelIdeal.Group

open Idealize.ShloMosaic Idealize.SL.Sem Cert.KernelIdeal.Gen

variable {F : FTy → Type} [FloatOps F] [Named F]

/-- The nine chunks of a group, the last first, before a list. -/
def each9 {α : Type} (f : Fin 4 → Fin 9 → α) (g : Fin 4) (tail : List α) : List α :=
  f g 8 :: f g 7 :: f g 6 :: f g 5 :: f g 4 :: f g 3 :: f g 2 :: f g 1 :: f g 0 :: tail

variable (i : grid0.Coords)
  (arg1 : Memref sig .tc .vmem S1x1024x1152 .fp8e4m3) (arg2 : Memref sig .tc .vmem S8x1024 .f32)
  (arg3 : Memref sig .tc .vmem S1x1024x1152 .bf16) (arg4 : Memref sig .tc .vmem S1x1024x1152 .fp8e5m2)
  (arg5 : Memref sig .tc .vmem S8x1024 .f32) (arg6 : Memref sig .tc .vmem S1x1024x1152 .fp8e5m2)
  (arg7 : Memref sig .tc .vmem S8x1024 .f32) (arg12 : Memref sig .tc .vmem S8x1024 .f32) (arg13 : Memref sig .tc .vmem S4x32x1152 .f32)
  (v11 : Vec F S1x1152 .f32) (X1 : BufTy.Contents (Elt F) arg1.view.ty) (X2 : BufTy.Contents (Elt F) arg2.view.ty)
  (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty) (k : Fin k0_t1_loop.trips)

/-- The scales of a block, of the sequence the grid point is at. -/
abbrev scales (a : Memref sig .tc .vmem S8x1024 .f32) (X : BufTy.Contents (Elt F) a.view.ty) : FVec F S128x1 .f32 :=
  pick (k0_pay2 i) (View.readAt (Elt F) a.view (rect2 k).toLoadRect X)

/-- A chunk of a group, as the body loads it. -/
def load {e : EltTy} (a : Memref sig .tc .vmem S1x1024x1152 e) (X : BufTy.Contents (Elt F) a.view.ty) (g : Fin 4) (j : Fin 9) : Vec F S1x32x128 e :=
  View.readAt (Elt F) a.view (rect k g j).toLoadRect X

/-- The stores into the scratch buffer. -/
def pieces13 (n : Fin 4) : List (View.Piece (Elt F) S4x32x1152 .f32) :=
  let P : Fin 4 → Fin 9 → View.Piece (Elt F) S4x32x1152 .f32 := fun g j =>
    ⟨rect13 g j, shapeCast S1x32x128 (dx (load k arg1 X1 g) (load k arg4 X4 g) (load k arg6 X6 g) (part (scales i k arg2 X2) g) (part (scales i k arg5 X5) g) (part (scales i k arg7 X7) g) (k0_pay1 v11) j) shapeCasts_S32x128_S1x32x128⟩
  match n with
  | 0 => each9 P 0 []
  | 1 => each9 P 1 (each9 P 0 [])
  | 2 => each9 P 2 (each9 P 1 (each9 P 0 []))
  | 3 => each9 P 3 (each9 P 2 (each9 P 1 (each9 P 0 [])))

/-- The stores of the quantised gradient, each of what the scratch buffer then holds. -/
def pieces11 : List (View.Piece (Elt F) S1x1024x1152 .fp8e5m2) :=
  let P : Fin 4 → Fin 9 → View.Piece (Elt F) S1x1024x1152 .fp8e5m2 := fun g j =>
    ⟨rect k g j, quant (load k arg1 X1 g) (load k arg4 X4 g) (load k arg6 X6 g) (part (scales i k arg2 X2) g) (part (scales i k arg5 X5) g) (part (scales i k arg7 X7) g) (k0_pay1 v11) (arg13.view.readCov (pieces13 i arg1 arg2 arg4 arg5 arg6 arg7 v11 X1 X2 X4 X5 X6 X7 k g) (rect13 g j).toLoadRect)⟩
  each9 P 3 (each9 P 2 (each9 P 1 (each9 P 0 [])))

/-- The stores of a block's sums. -/
def pieces10 : List (View.Piece (Elt F) S1x8x3x1152 .f32) :=
  let P : Fin 9 → View.Piece (Elt F) S1x8x3x1152 .f32 := fun j =>
    ⟨rect10 k j, sums3 (blockSum fun g => dh (load k arg6 X6 g) (part (scales i k arg7 X7) g) j) (blockSum fun g => pr (load k arg1 X1 g) (load k arg6 X6 g) (part (scales i k arg2 X2) g) (part (scales i k arg7 X7) g) j)
      (blockSum fun g => pf (load k arg3 X3 g) (load k arg4 X4 g) (part (scales i k arg5 X5) g) j)⟩
  [P 8, P 7, P 6, P 5, P 4, P 3, P 2, P 1, P 0]

/-- The store of a block's scales, over what the buffer held. -/
def piece12 (f12 : BufTy.Contents (Elt F) arg12.view.ty) : View.Piece (Elt F) S8x1024 .f32 :=
  ⟨rect2 k, putRow (k0_pay2 i) (fun g => up (load k arg1 X1 g) (load k arg4 X4 g) (load k arg6 X6 g) (part (scales i k arg2 X2) g) (part (scales i k arg5 X5) g) (part (scales i k arg7 X7) g) (k0_pay1 v11))
    (shapeCast S8x128 (View.readAt (Elt F) arg12.view (rect2 k).toLoadRect f12 : Vec F S8x128 .f32) shapeCasts_S8x128_S8x128)⟩

variable (𝒱 : Variants) (c : Dev nD) (bd : Option 𝒱.V) (harg1 : arg1.IsWhole) (harg2 : arg2.IsWhole) (harg3 : arg3.IsWhole) (harg4 : arg4.IsWhole)
  (harg5 : arg5.IsWhole) (harg6 : arg6.IsWhole) (harg7 : arg7.IsWhole) (arg8 : Memref sig .tc .vmem S8x1152 .f32) (harg8 : arg8.IsWhole)
  (arg9 : Memref sig .tc .vmem S1x3x1152 .f32) (harg9 : arg9.IsWhole) (arg10 : Memref sig .tc .vmem S1x8x3x1152 .f32) (harg10 : arg10.IsWhole)
  (arg11 : Memref sig .tc .vmem S1x1024x1152 .fp8e5m2) (harg11 : arg11.IsWhole) (harg12 : arg12.IsWhole) (harg13 : arg13.IsWhole)
  (f10 : BufTy.Contents (Elt F) arg10.view.ty) (f11 : BufTy.Contents (Elt F) arg11.view.ty) (f12 : BufTy.Contents (Elt F) arg12.view.ty)
  (f13 : BufTy.Contents (Elt F) arg13.view.ty)

set_option maxHeartbeats 0 in
/-- What one trip stores. -/
theorem tripL_eq : tripL_k0_t1 (F := F) 𝒱 c bd i arg1 harg1 arg2 harg2 arg3 harg3 arg4 harg4 arg5 harg5 arg6 harg6 arg7 harg7 arg8 harg8 arg9 harg9
      arg10 harg10 arg11 harg11 arg12 harg12 arg13 harg13 v11 X1 X2 X3 X4 X5 X6 X7 k f10 f11 f12 f13 =
    (pieces10 i arg1 arg2 arg3 arg4 arg5 arg6 arg7 X1 X2 X3 X4 X5 X6 X7 k,
     pieces11 i arg1 arg2 arg4 arg5 arg6 arg7 arg13 v11 X1 X2 X4 X5 X6 X7 k,
     [piece12 i arg1 arg2 arg4 arg5 arg6 arg7 arg12 v11 X1 X2 X4 X5 X6 X7 k f12],
     pieces13 i arg1 arg2 arg4 arg5 arg6 arg7 v11 X1 X2 X4 X5 X6 X7 k 3) := by
  unfold tripL_k0_t1 trip_k0_t1
  dsimp only
  refine Prod.ext ?_ (Prod.ext ?_ (Prod.ext ?_ ?_))
  · rfl
  · rfl
  · rfl
  · rfl

end Cert.KernelIdeal.Group
-- ==== Proof.Token.lean ====
/- What the kernel computes for ONE token, over the extended reals: 1152 codes and three scales in, the gradient and its
   quantisation out. The functions of `Group.lean`, read at a token of the group, are these. -/
module

public import proofs.«01_k».proof.Proof.Group
public import Idealize.ShloMosaic.Lib.Pointwise

@[expose] public section

set_option maxRecDepth 16384

noncomputable section

namespace Cert.KernelIdeal.Group

open Idealize.ShloMosaic Idealize.ShloMosaic.TcCoe Idealize.SL.Sem Cert.KernelIdeal Cert.KernelIdeal.Gen

/-- Column `l` of chunk `j`. -/
def col (j : Fin 9) (l : Fin 128) : Fin 1152 := ⟨j.val * 128 + l.val, by omega⟩

theorem sum_cols (w : Fin 1152 → EReal) : (∑ q, w q) = ∑ j : Fin 9, ∑ l : Fin 128, w (col j l) :=
  Fin.sum_univ_tiles 9 128 rfl w

/-- The reciprocal of the number of columns. -/
abbrev invD : EReal := ((1 / 1152 : ℝ) : EReal)

theorem named_invD : Named.named (F := Ideal) κ "inv_d" (φ := .f32) 0x3A638E39#32 = invD :=
  IdealRules.named_const.ideal_named_scalar _ _ _ _ rfl

/-- The absolute value. -/
def absE (a : EReal) : EReal := max a (-a)

section Token

variable (c f y h m : Fin 1152 → EReal) (xs ys hs : EReal)

def tMu : EReal := (∑ q, c q) * invD
def tDev (q : Fin 1152) : EReal := c q - tMu c
def tRstd : EReal := Ideal.rsqrt ((∑ q, tDev c q * tDev c q) * invD * (xs * xs) + Ideal.ofBits .f32 0x358637BD#32)
def tXr : EReal := xs * tRstd c xs
def tXhat (q : Fin 1152) : EReal := tDev c q * tXr c xs
def tPr (q : Fin 1152) : EReal := h q * hs * tXhat c xs q
def tMg : EReal := (∑ q, h q * hs * m q) * invD
def tMgx : EReal := (∑ q, tPr c h xs hs q * m q) * invD
def tCx : EReal := tXr c xs * (tMgx c h m xs hs * tRstd c xs)
def tOff : EReal := tRstd c xs * tMg h m hs - tCx c h m xs hs * tMu c
def tDx (q : Fin 1152) : EReal :=
  y q * ys + (h q * m q * (hs * tRstd c xs) - c q * tCx c h m xs hs - tOff c h m xs hs)
def tAmax : EReal := max 0 (Finset.univ.sup fun q => absE (tDx c y h m xs ys hs q))
def tRatio : EReal := tAmax c y h m xs ys hs * Ideal.ofBits .f32 0x37924925#32
/-- The scale and its inverse, as functions of the largest gradient over 57344. -/
def tUp (ρ : EReal) : EReal := scaleUp (F := Ideal) (fun _ => ρ) (ix2 0 0)
def tDown (ρ : EReal) : EReal := scaleDown (F := Ideal) (fun _ => ρ) (ix2 0 0)
def tQ (q : Fin 1152) : EReal :=
  min (Ideal.ofBits .f32 0x47600000#32) (max (Ideal.ofBits .f32 0xC7600000#32)
    (tDx c y h m xs ys hs q * tDown (tRatio c y h m xs ys hs)))

end Token

/-- Nine chunks added lane by lane and the lanes summed: the sum over the columns. -/
theorem mean_at (v : Fin 9 → FVec Ideal S32x128 .f32) (r : Fin 32) (w : Fin 1152 → EReal) (hv : ∀ j l, v j (ix2 r l) = w (col j l)) :
    mean (F := Ideal) (add9 v) (ix2 r 0) = (∑ q, w q) * invD := by
  pointwise [mean, lanes, add9]
  rw [named_invD, sum_cols, Finset.sum_comm]
  simp only [hv]
  refine congrArg (· * invD) (Finset.sum_congr rfl fun l _ => ?_)
  simp only [Fin.sum_univ_castSucc, Finset.univ_eq_empty, Finset.sum_empty, zero_add]
  rfl

theorem col_surj (q : Fin 1152) : ∃ j l, q = col j l :=
  ⟨⟨q.val / 128, by omega⟩, ⟨q.val % 128, by omega⟩, Fin.ext (by simp [col]; omega)⟩

theorem max_cols (a : Fin 1152 → EReal) :
    Finset.fold max (⊥ : EReal) (fun l => max (max (max (max (max (max (max (max (max 0 (a (col 0 l))) (a (col 1 l))) (a (col 2 l)))
      (a (col 3 l))) (a (col 4 l))) (a (col 5 l))) (a (col 6 l))) (a (col 7 l))) (a (col 8 l))) Finset.univ = max 0 (Finset.univ.sup a) := by
  change Finset.univ.sup _ = _
  refine le_antisymm (Finset.sup_le fun l _ => ?_) (max_le ?_ (Finset.sup_le fun q _ => ?_))
  · have h : ∀ j, a (col j l) ≤ Finset.univ.sup a := fun j => Finset.le_sup (Finset.mem_univ _)
    exact max_le (max_le (max_le (max_le (max_le (max_le (max_le (max_le (max_le (le_max_left _ _) (le_max_of_le_right (h 0)))
      (le_max_of_le_right (h 1))) (le_max_of_le_right (h 2))) (le_max_of_le_right (h 3))) (le_max_of_le_right (h 4)))
      (le_max_of_le_right (h 5))) (le_max_of_le_right (h 6))) (le_max_of_le_right (h 7))) (le_max_of_le_right (h 8))
  · refine le_trans ?_ (Finset.le_sup (Finset.mem_univ (0 : Fin 128)))
    simp only [le_max_iff, le_refl, true_or]
  · obtain ⟨j, l, rfl⟩ := col_surj q
    refine le_trans ?_ (Finset.le_sup (Finset.mem_univ l))
    fin_cases j <;> simp [le_max_iff]

/-- Row `r` of a group holds a token. -/
structure Row (x : Fin 9 → Vec Ideal S1x32x128 .fp8e4m3) (f : Fin 9 → Vec Ideal S1x32x128 .bf16)
    (y h : Fin 9 → Vec Ideal S1x32x128 .fp8e5m2) (xs ys hs : FVec Ideal S32x1 .f32) (m : FVec Ideal S1x1152 .f32) (r : Fin 32)
    (tc tf ty th tm : Fin 1152 → EReal) (txs tys ths : EReal) : Prop where
  x : ∀ j l, x j (ix3 0 r l) = tc (col j l)
  f : ∀ j l, f j (ix3 0 r l) = tf (col j l)
  y : ∀ j l, y j (ix3 0 r l) = ty (col j l)
  h : ∀ j l, h j (ix3 0 r l) = th (col j l)
  m : ∀ q, m (ix2 0 q) = tm q
  xs : xs (ix2 r 0) = txs
  ys : ys (ix2 r 0) = tys
  hs : hs (ix2 r 0) = ths

/-- The scale of a token depends on that token alone. -/
theorem scaleUp_at (v : FVec Ideal S32x1 .f32) (r : Fin 32) : scaleUp (F := Ideal) v (ix2 r 0) = tUp (v (ix2 r 0)) := by
  unfold tUp; pointwise [scaleUp, plain, field, step]
theorem scaleDown_at (v : FVec Ideal S32x1 .f32) (r : Fin 32) : scaleDown (F := Ideal) v (ix2 r 0) = tDown (v (ix2 r 0)) := by
  unfold tDown; pointwise [scaleDown, plain, field, step]

section At

variable {x : Fin 9 → Vec Ideal S1x32x128 .fp8e4m3} {f : Fin 9 → Vec Ideal S1x32x128 .bf16}
    {y h : Fin 9 → Vec Ideal S1x32x128 .fp8e5m2} {xs ys hs : FVec Ideal S32x1 .f32} {m : FVec Ideal S1x1152 .f32} {r : Fin 32}
    {tc tf ty th tm : Fin 1152 → EReal} {txs tys ths : EReal} (R : Row x f y h xs ys hs m r tc tf ty th tm txs tys ths)
include R

theorem cx8_at (j : Fin 9) (l : Fin 128) : cx8 (F := Ideal) x j (ix2 r l) = tc (col j l) := by
  pointwise [cx8, codes]; exact R.x j l
theorem ch8_at (j : Fin 9) (l : Fin 128) : ch8 (F := Ideal) h j (ix2 r l) = th (col j l) := by
  pointwise [ch8, codes]; exact R.h j l
theorem cy8_at (j : Fin 9) (l : Fin 128) : cy8 (F := Ideal) y j (ix2 r l) = ty (col j l) := by
  pointwise [cy8, codes]; exact R.y j l
theorem cf16_at (j : Fin 9) (l : Fin 128) : cf16 (F := Ideal) f j (ix2 r l) = tf (col j l) := by
  pointwise [cf16, codes]; exact R.f j l
theorem mc_at (j : Fin 9) (l : Fin 128) : mc (F := Ideal) m j (ix2 r l) = tm (col j l) := by
  rw [← R.m]
  fin_cases j <;> (pointwise [mc, mc0]; exact congrArg m (congrArg (ix2 (0 : Fin 1)) (Fin.ext (by simp [col]))))

theorem mu_at : mu (F := Ideal) x (ix2 r 0) = tMu tc := mean_at _ r _ fun j l => cx8_at R j l
theorem dev_at (j : Fin 9) (l : Fin 128) : dev (F := Ideal) x j (ix2 r l) = tDev tc (col j l) := by
  pointwise [dev, wide]; rw [cx8_at R, mu_at R]; rfl
theorem rstd_at : rstd (F := Ideal) x xs (ix2 r 0) = tRstd tc txs := by
  pointwise [rstd]
  rw [mean_at _ r (fun q => tDev tc q * tDev tc q) fun j l => by pointwise []; rw [dev_at R], R.xs]; rfl
theorem xr_at : xr (F := Ideal) x xs (ix2 r 0) = tXr tc txs := by
  pointwise [xr]; rw [rstd_at R, R.xs]; rfl
theorem xhat_at (j : Fin 9) (l : Fin 128) : xhat (F := Ideal) x xs j (ix2 r l) = tXhat tc txs (col j l) := by
  pointwise [xhat, wide]; rw [dev_at R, xr_at R]; rfl
theorem dh_at (j : Fin 9) (l : Fin 128) : dh (F := Ideal) h hs j (ix2 r l) = th (col j l) * ths := by
  pointwise [dh, wide]; rw [ch8_at R, R.hs]
theorem pr_at (j : Fin 9) (l : Fin 128) : pr (F := Ideal) x h xs hs j (ix2 r l) = tPr tc th txs ths (col j l) := by
  pointwise [pr]; rw [dh_at R, xhat_at R]; rfl
theorem mg_at : mg (F := Ideal) h hs m (ix2 r 0) = tMg th tm ths :=
  mean_at _ r (fun q => th q * ths * tm q) fun j l => by pointwise []; rw [dh_at R, mc_at R]
theorem mgx_at : mgx (F := Ideal) x h xs hs m (ix2 r 0) = tMgx tc th tm txs ths :=
  mean_at _ r (fun q => tPr tc th txs ths q * tm q) fun j l => by pointwise []; rw [pr_at R, mc_at R]
theorem cx_at : cx (F := Ideal) x h xs hs m (ix2 r 0) = tCx tc th tm txs ths := by
  pointwise [cx]; rw [xr_at R, mgx_at R, rstd_at R]; rfl
theorem off_at : off (F := Ideal) x h xs hs m (ix2 r 0) = tOff tc th tm txs ths := by
  pointwise [off]; rw [rstd_at R, mg_at R, cx_at R, mu_at R]; rfl
theorem dy_at (j : Fin 9) (l : Fin 128) : dy (F := Ideal) y ys j (ix2 r l) = ty (col j l) * tys := by
  pointwise [dy, wide]; rw [cy8_at R, R.ys]
theorem pf_at (j : Fin 9) (l : Fin 128) : pf (F := Ideal) f y ys j (ix2 r l) = ty (col j l) * tys * tf (col j l) := by
  pointwise [pf]; rw [dy_at R, cf16_at R]
theorem dx_at (j : Fin 9) (l : Fin 128) : dx (F := Ideal) x y h xs ys hs m j (ix2 r l) = tDx tc ty th tm txs tys ths (col j l) := by
  pointwise [dx, wide, ca]; rw [dy_at R, ch8_at R, mc_at R, R.hs, rstd_at R, cx8_at R, cx_at R, off_at R]; rfl
theorem ratio_at : ratio (F := Ideal) x y h xs ys hs m (ix2 r 0) = tRatio tc ty th tm txs tys ths := by
  pointwise [ratio, max9]
  simp only [dx_at R]
  rw [show Ideal.ofBits FTy.f32 0xFF800000#32 = (⊥ : EReal) by simp [Ideal.ofBits, Ideal.ieee]]
  refine congrArg (· * Ideal.ofBits FTy.f32 0x37924925#32) ?_
  exact max_cols (fun q => absE (tDx tc ty th tm txs tys ths q))
theorem up_at : up (F := Ideal) x y h xs ys hs m (ix2 r 0) = tUp (tRatio tc ty th tm txs tys ths) := by
  rw [← ratio_at R]; exact scaleUp_at _ r
theorem down_at : down (F := Ideal) x y h xs ys hs m (ix2 r 0) = tDown (tRatio tc ty th tm txs tys ths) := by
  rw [← ratio_at R]; exact scaleDown_at _ r
theorem quant_at (d : FVec Ideal S1x32x128 .f32) (j : Fin 9) (l : Fin 128) (hd : d (ix3 0 r l) = tDx tc ty th tm txs tys ths (col j l)) :
    quant (F := Ideal) x y h xs ys hs m d (ix3 0 r l) = tQ tc ty th tm txs tys ths (col j l) := by
  pointwise [quant, wide]; rw [down_at R, hd]; rfl

end At

end Cert.KernelIdeal.Group
-- ==== Proof.Block.lean ====
/- The stores of one trip, in terms of what the staged blocks hold: at token `t` and column `q` the gradient of that token
   (`Token.lean`), at row and column of the scales the token's scale, at a column of the sums the sums over the block. -/
module

public import proofs.«01_k».proof.Proof.Trip
public import proofs.«01_k».proof.Proof.Token
public import Idealize.ShloMosaic.Lib.Pipeline.FrameBody
public import Idealize.ShloMosaic.Lib.Pipeline.ReadBack

@[expose] public section

set_option maxRecDepth 16384

noncomputable section

namespace Cert.KernelIdeal.Group

open Idealize.ShloMosaic Idealize.ShloMosaic.TcCoe Idealize.SL.Sem Cert.KernelIdeal Cert.KernelIdeal.Gen

/-- The row of the eight stored together that a grid point is at. -/
def rowOf (i : grid0.Coords) : Fin 8 := ⟨(i 0).val % 8, Nat.mod_lt _ (by decide)⟩

theorem mine0 : ∀ (i : grid0.Coords) (r : Fin 8), k0_pay2 i (ix2 r 0) = if r = rowOf i then 1#1 else 0#1 := by decide +kernel

theorem mine_at (i : grid0.Coords) (r : Fin 8) (l : Fin 128) : k0_pay2 i (ix2 r l) = if r = rowOf i then 1#1 else 0#1 := by
  rw [← mine0 i r]; pointwise [k0_pay2]

theorem off1_eq : ∀ i : grid0.Coords, k0_off1 i = ![(rowOf i).val, 0] := by decide +kernel

/-- The scales picked out are those of the grid point's row. -/
theorem pick_at (i : grid0.Coords) (v : Vec Ideal S8x128 .f32) (l : Fin 128) : pick (F := Ideal) (k0_pay2 i) v (ix2 l 0) = v (ix2 (rowOf i) l) := by
  pointwise [pick]
  simp only [mine_at]
  rw [Finset.sum_eq_single (rowOf i) (fun r _ hr => by simp [hr, Scalar.select]) (fun h => absurd (Finset.mem_univ _) h)]
  simp [Scalar.select]

/-- The place of a group's row among the 1024 tokens. -/
def tok (k : Fin k0_t1_loop.trips) (g : Fin 4) (r : Fin 32) : Fin 1024 :=
  ⟨128 * k.val + (32 * g.val + r.val), by have := trips8 k; omega⟩

theorem part_at (v : FVec Ideal S128x1 .f32) (g : Fin 4) (r : Fin 32) : part (F := Ideal) v g (ix2 r 0) = v (ix2 ⟨32 * g.val + r.val, by omega⟩ 0) := by
  fin_cases g <;> pointwise [part]

section Blk

variable (i : grid0.Coords)
  (arg1 : Memref sig .tc .vmem S1x1024x1152 .fp8e4m3) (arg2 : Memref sig .tc .vmem S8x1024 .f32)
  (arg3 : Memref sig .tc .vmem S1x1024x1152 .bf16) (arg4 : Memref sig .tc .vmem S1x1024x1152 .fp8e5m2)
  (arg5 : Memref sig .tc .vmem S8x1024 .f32) (arg6 : Memref sig .tc .vmem S1x1024x1152 .fp8e5m2)
  (arg7 : Memref sig .tc .vmem S8x1024 .f32) (arg12 : Memref sig .tc .vmem S8x1024 .f32) (arg13 : Memref sig .tc .vmem S4x32x1152 .f32)
  (v11 : Vec Ideal S1x1152 .f32) (X1 : BufTy.Contents (Elt Ideal) arg1.view.ty) (X2 : BufTy.Contents (Elt Ideal) arg2.view.ty)
  (X3 : BufTy.Contents (Elt Ideal) arg3.view.ty) (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty) (k : Fin k0_t1_loop.trips)

theorem rect_idx (g : Fin 4) (j : Fin 9) (r : Fin 32) (l : Fin 128) :
    (rect k g j).emb (ix3 (0 : Fin 1) r l) = ix3 (0 : Fin 1) (tok k g r) (col j l) := by
  funext a
  refine Fin.ext ?_
  have h := congrFun (offs_eq k g j) a
  show offs k g j a + 1 * _ = _
  rw [h]
  fin_cases a <;> simp [tok, col, ix3] <;> omega

theorem rect2_idx (r : Fin 8) (l : Fin 128) :
    (rect2 k).emb (ix2 r l) = ix2 r (⟨128 * k.val + l.val, by have := trips8 k; omega⟩ : Fin 1024) := by
  funext a
  refine Fin.ext ?_
  have h := congrFun (k0_off2_eq k) a
  show k0_off2 k a + 1 * _ = _
  rw [h]
  fin_cases a <;> simp [ix2]

theorem load_at {e : EltTy} (a : Memref sig .tc .vmem S1x1024x1152 e) (X : BufTy.Contents (Elt Ideal) a.view.ty) (g : Fin 4) (j : Fin 9)
    (r : Fin 32) (l : Fin 128) :
    load (F := Ideal) k a X g j (ix3 0 r l) = a.view.read (Elt Ideal) X (ix3 0 (tok k g r) (col j l)) :=
  congrArg (a.view.read (Elt Ideal) X) (rect_idx k g j r l)

theorem scales_at (a : Memref sig .tc .vmem S8x1024 .f32) (X : BufTy.Contents (Elt Ideal) a.view.ty) (g : Fin 4) (r : Fin 32) :
    part (F := Ideal) (scales i k a X) g (ix2 r 0) = a.view.read (Elt Ideal) X (ix2 (rowOf i) (tok k g r)) := by
  rw [part_at, scales, pick_at]
  exact congrArg (a.view.read (Elt Ideal) X) (rect2_idx k _ _)

theorem row_at (g : Fin 4) (r : Fin 32) :
    Row (load k arg1 X1 g) (load k arg3 X3 g) (load k arg4 X4 g) (load k arg6 X6 g) (part (scales i k arg2 X2) g) (part (scales i k arg5 X5) g)
      (part (scales i k arg7 X7) g) (k0_pay1 (F := Ideal) v11) r
      (fun q => arg1.view.read (Elt Ideal) X1 (ix3 0 (tok k g r) q)) (fun q => arg3.view.read (Elt Ideal) X3 (ix3 0 (tok k g r) q))
      (fun q => arg4.view.read (Elt Ideal) X4 (ix3 0 (tok k g r) q)) (fun q => arg6.view.read (Elt Ideal) X6 (ix3 0 (tok k g r) q))
      (fun q => k0_pay1 (F := Ideal) v11 (ix2 0 q)) (arg2.view.read (Elt Ideal) X2 (ix2 (rowOf i) (tok k g r)))
      (arg5.view.read (Elt Ideal) X5 (ix2 (rowOf i) (tok k g r))) (arg7.view.read (Elt Ideal) X7 (ix2 (rowOf i) (tok k g r))) where
  x := fun j l => load_at k arg1 X1 g j r l
  f := fun j l => load_at k arg3 X3 g j r l
  y := fun j l => load_at k arg4 X4 g j r l
  h := fun j l => load_at k arg6 X6 g j r l
  m := fun _ => rfl
  xs := scales_at i k arg2 X2 g r
  ys := scales_at i k arg5 X5 g r
  hs := scales_at i k arg7 X7 g r

end Blk

theorem mem_each9 {α : Type} (f : Fin 4 → Fin 9 → α) (g : Fin 4) (tail : List α) (p : α) :
    p ∈ each9 f g tail ↔ (∃ j, p = f g j) ∨ p ∈ tail := by
  simp only [each9, List.mem_cons]
  constructor
  · rintro (h | h | h | h | h | h | h | h | h | h)
    exacts [.inl ⟨_, h⟩, .inl ⟨_, h⟩, .inl ⟨_, h⟩, .inl ⟨_, h⟩, .inl ⟨_, h⟩, .inl ⟨_, h⟩, .inl ⟨_, h⟩, .inl ⟨_, h⟩, .inl ⟨_, h⟩, .inr h]
  · rintro (⟨j, h⟩ | h)
    · fin_cases j <;> simp_all
    · simp [h]

theorem blockSum_at (v : Fin 4 → FVec Ideal S32x128 .f32) (l : Fin 128) :
    blockSum (F := Ideal) v (ix2 0 l) = ∑ g, ∑ r, v g (ix2 r l) := by
  pointwise [blockSum, bands]
  have e : ∀ w : Fin 32 → EReal, (∑ r, w r) = ∑ b : Fin 4, ∑ s : Fin 8, w ⟨b.val * 8 + s.val, by omega⟩ := fun w =>
    Fin.sum_univ_tiles 4 8 rfl w
  simp only [Fin.sum_univ_four, e, ← Finset.sum_add_distrib]
  refine Finset.sum_congr rfl fun x _ => ?_
  simp [add_assoc]

theorem sums3_at (a b c : FVec Ideal S1x128 .f32) (t : Fin 3) (l : Fin 128) :
    sums3 (F := Ideal) a b c (ix4 0 0 t l) = ![a (ix2 0 l), b (ix2 0 l), c (ix2 0 l)] t := by
  fin_cases t <;> pointwise [sums3]

theorem putRow_at (i : grid0.Coords) (u : Fin 4 → FVec Ideal S32x1 .f32) (old : FVec Ideal S8x128 .f32) (s : Fin 8) (g : Fin 4) (r : Fin 32) :
    putRow (F := Ideal) (k0_pay2 i) u old (ix2 s ⟨32 * g.val + r.val, by omega⟩) =
      if s = rowOf i then u g (ix2 r 0) else old (ix2 s ⟨32 * g.val + r.val, by omega⟩) := by
  pointwise [putRow]
  rw [mine_at]
  by_cases hs : s = rowOf i
  · simp only [hs, if_true, Scalar.select]
    rcases (by omega : g.val = 0 ∨ g.val = 1 ∨ g.val = 2 ∨ g.val = 3) with hg | hg | hg | hg <;> split_ifs <;> first
      | (exfalso; omega)
      | (exfalso; simp_all; done)
      | exact congrArg₂ (fun a c => u a (ix2 c (0 : Fin 1))) (Fin.ext (by simp [hg])) (Fin.ext (by simp only []; omega))
  · simp [hs, Scalar.select]

section Values

variable (b : Fin 8) (x0 : Vec Ideal S1x1024x1152 .fp8e4m3) (x1 : Vec Ideal S8x1024 .f32) (x2 : Vec Ideal S1x1024x1152 .bf16)
  (x3 : Vec Ideal S1x1024x1152 .fp8e5m2) (x4 : Vec Ideal S8x1024 .f32) (x5 : Vec Ideal S1x1024x1152 .fp8e5m2) (x6 : Vec Ideal S8x1024 .f32)
  (M : Fin 1152 → EReal)

/-- The gradient of token `t`, from the staged blocks; its scale; and its quantised codes. -/
def vDx (t : Fin 1024) (q : Fin 1152) : EReal :=
  tDx (fun q => x0 (ix3 0 t q)) (fun q => x3 (ix3 0 t q)) (fun q => x5 (ix3 0 t q)) M (x1 (ix2 b t)) (x4 (ix2 b t)) (x6 (ix2 b t)) q
def vUp (t : Fin 1024) : EReal :=
  tUp (tRatio (fun q => x0 (ix3 0 t q)) (fun q => x3 (ix3 0 t q)) (fun q => x5 (ix3 0 t q)) M (x1 (ix2 b t)) (x4 (ix2 b t)) (x6 (ix2 b t)))
def vQ (t : Fin 1024) (q : Fin 1152) : EReal :=
  tQ (fun q => x0 (ix3 0 t q)) (fun q => x3 (ix3 0 t q)) (fun q => x5 (ix3 0 t q)) M (x1 (ix2 b t)) (x4 (ix2 b t)) (x6 (ix2 b t)) q
/-- What a token adds to the three gradients of the modulation. -/
def vMod (a : Fin 3) (t : Fin 1024) (q : Fin 1152) : EReal :=
  ![x5 (ix3 0 t q) * x6 (ix2 b t),
    tPr (fun q => x0 (ix3 0 t q)) (fun q => x5 (ix3 0 t q)) (x1 (ix2 b t)) (x6 (ix2 b t)) q,
    x3 (ix3 0 t q) * x4 (ix2 b t) * x2 (ix3 0 t q)] a
/-- The sum over a block of 128 tokens. -/
def vSum (k : Fin 8) (a : Fin 3) (q : Fin 1152) : EReal := ∑ t : Fin 128, vMod b x0 x1 x2 x3 x4 x5 x6 a ⟨128 * k.val + t.val, by omega⟩ q

end Values

end Cert.KernelIdeal.Group
-- ==== Proof.Pieces.lean ====
/- What the stores of one trip hold, and what the buffers hold after all trips. -/
module

public import proofs.«01_k».proof.Proof.Block

@[expose] public section

set_option maxRecDepth 16384

noncomputable section

namespace Cert.KernelIdeal.Group

open Idealize.ShloMosaic Idealize.ShloMosaic.TcCoe Idealize.SL.Sem Cert.KernelIdeal Cert.KernelIdeal.Gen

section Pieces

variable (i : grid0.Coords)
  (arg1 : Memref sig .tc .vmem S1x1024x1152 .fp8e4m3) (arg2 : Memref sig .tc .vmem S8x1024 .f32)
  (arg3 : Memref sig .tc .vmem S1x1024x1152 .bf16) (arg4 : Memref sig .tc .vmem S1x1024x1152 .fp8e5m2)
  (arg5 : Memref sig .tc .vmem S8x1024 .f32) (arg6 : Memref sig .tc .vmem S1x1024x1152 .fp8e5m2)
  (arg7 : Memref sig .tc .vmem S8x1024 .f32) (arg12 : Memref sig .tc .vmem S8x1024 .f32) (arg13 : Memref sig .tc .vmem S4x32x1152 .f32)
  (v11 : Vec Ideal S1x1152 .f32) (X1 : BufTy.Contents (Elt Ideal) arg1.view.ty) (X2 : BufTy.Contents (Elt Ideal) arg2.view.ty)
  (X3 : BufTy.Contents (Elt Ideal) arg3.view.ty) (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty) (k : Fin k0_t1_loop.trips)

/-- The gradient of token `t`, from the contents of the staged blocks. -/
abbrev wDx := vDx (rowOf i) (arg1.view.read (Elt Ideal) X1) (arg2.view.read (Elt Ideal) X2) (arg4.view.read (Elt Ideal) X4)
  (arg5.view.read (Elt Ideal) X5) (arg6.view.read (Elt Ideal) X6) (arg7.view.read (Elt Ideal) X7) (fun q => k0_pay1 (F := Ideal) v11 (ix2 0 q))
abbrev wQ := vQ (rowOf i) (arg1.view.read (Elt Ideal) X1) (arg2.view.read (Elt Ideal) X2) (arg4.view.read (Elt Ideal) X4)
  (arg5.view.read (Elt Ideal) X5) (arg6.view.read (Elt Ideal) X6) (arg7.view.read (Elt Ideal) X7) (fun q => k0_pay1 (F := Ideal) v11 (ix2 0 q))
abbrev wUp := vUp (rowOf i) (arg1.view.read (Elt Ideal) X1) (arg2.view.read (Elt Ideal) X2) (arg4.view.read (Elt Ideal) X4)
  (arg5.view.read (Elt Ideal) X5) (arg6.view.read (Elt Ideal) X6) (arg7.view.read (Elt Ideal) X7) (fun q => k0_pay1 (F := Ideal) v11 (ix2 0 q))
abbrev wSum := vSum (rowOf i) (arg1.view.read (Elt Ideal) X1) (arg2.view.read (Elt Ideal) X2) (arg3.view.read (Elt Ideal) X3)
  (arg4.view.read (Elt Ideal) X4) (arg5.view.read (Elt Ideal) X5) (arg6.view.read (Elt Ideal) X6) (arg7.view.read (Elt Ideal) X7)

/-- What the scratch buffer holds after a trip. -/
def scratch (y : S4x32x1152.Idx) : EReal := wDx i arg1 arg2 arg4 arg5 arg6 arg7 v11 X1 X2 X4 X5 X6 X7 (tok k (y 0) (y 1)) (y 2)

/-- What the three outputs hold where the trips have stored: the codes, the blocks' sums, and the scales (of the sequence's
   row; the other rows hold what they held). -/
def codes11 (y : S1x1024x1152.Idx) : EReal := wQ i arg1 arg2 arg4 arg5 arg6 arg7 v11 X1 X2 X4 X5 X6 X7 (y 1) (y 2)
def sums10 (y : S1x8x3x1152.Idx) : EReal := wSum i arg1 arg2 arg3 arg4 arg5 arg6 arg7 X1 X2 X3 X4 X5 X6 X7 (y 1) (y 2) (y 3)
def scales12 (D : S8x1024.Idx → EReal) (y : S8x1024.Idx) : EReal :=
  let s : Fin 8 := y 0
  if s = rowOf i then wUp i arg1 arg2 arg4 arg5 arg6 arg7 v11 X1 X2 X4 X5 X6 X7 (y 1) else D y

theorem rect13_idx (g : Fin 4) (j : Fin 9) (r : Fin 32) (l : Fin 128) : (rect13 g j).emb (ix3 (0 : Fin 1) r l) = ix3 g r (col j l) := by
  funext a
  refine Fin.ext ?_
  show (![g.val, 0, 128 * j.val] : Fin 3 → Nat) a + 1 * _ = _
  fin_cases a <;> simp [col, ix3] <;> omega

theorem mem13 (n : Fin 4) (p : View.Piece (Elt Ideal) S4x32x1152 .f32) :
    p ∈ pieces13 (F := Ideal) i arg1 arg2 arg4 arg5 arg6 arg7 v11 X1 X2 X4 X5 X6 X7 k n ↔ ∃ g j, g ≤ n ∧ p =
      ⟨rect13 g j, shapeCast S1x32x128 (dx (load k arg1 X1 g) (load k arg4 X4 g) (load k arg6 X6 g) (part (scales i k arg2 X2) g)
        (part (scales i k arg5 X5) g) (part (scales i k arg7 X7) g) (k0_pay1 v11) j) shapeCasts_S32x128_S1x32x128⟩ := by
  have h4 : ∀ P : Fin 4 → Prop, (∃ g, P g) ↔ P 0 ∨ P 1 ∨ P 2 ∨ P 3 := fun P => by
    constructor
    · rintro ⟨g, h⟩; fin_cases g <;> simp_all
    · rintro (h | h | h | h) <;> exact ⟨_, h⟩
  rw [h4]
  fin_cases n <;> simp only [pieces13, mem_each9, List.not_mem_nil, or_false] <;> simp [Fin.le_def] <;> tauto

include arg3 X3 in
theorem ag13 (n : Fin 4) (p : View.Piece (Elt Ideal) S4x32x1152 .f32)
    (hp : p ∈ pieces13 (F := Ideal) i arg1 arg2 arg4 arg5 arg6 arg7 v11 X1 X2 X4 X5 X6 X7 k n) (x) :
    p.2 x = scratch i arg1 arg2 arg4 arg5 arg6 arg7 v11 X1 X2 X4 X5 X6 X7 k (p.1.emb x) := by
  obtain ⟨g, j, -, rfl⟩ := (mem13 i arg1 arg2 arg4 arg5 arg6 arg7 v11 X1 X2 X4 X5 X6 X7 k n p).1 hp
  have key : ∀ z : S1x32x128.Idx, (shapeCast S1x32x128 (dx (F := Ideal) (load k arg1 X1 g) (load k arg4 X4 g) (load k arg6 X6 g) (part (scales i k arg2 X2) g)
        (part (scales i k arg5 X5) g) (part (scales i k arg7 X7) g) (k0_pay1 v11) j) shapeCasts_S32x128_S1x32x128 : FVec Ideal S1x32x128 .f32) z =
      scratch i arg1 arg2 arg4 arg5 arg6 arg7 v11 X1 X2 X4 X5 X6 X7 k ((rect13 g j).emb z) := by
    intro z
    idx_vars z
    obtain rfl : z0 = 0 := Subsingleton.elim _ _
    rw [rect13_idx]
    pointwise []
    exact dx_at (row_at i arg1 arg2 arg3 arg4 arg5 arg6 arg7 v11 X1 X2 X3 X4 X5 X6 X7 k g z1) j z2
  exact key x

include arg3 X3 in
/-- A group's chunk read back from the scratch buffer. -/
theorem back13 (g : Fin 4) (j : Fin 9) (r : Fin 32) (l : Fin 128) :
    (arg13.view.readCov (Val := Elt Ideal) (pieces13 (F := Ideal) i arg1 arg2 arg4 arg5 arg6 arg7 v11 X1 X2 X4 X5 X6 X7 k g) (rect13 g j).toLoadRect
      : Vec Ideal S1x32x128 .f32) (ix3 0 r l) = wDx i arg1 arg2 arg4 arg5 arg6 arg7 v11 X1 X2 X4 X5 X6 X7 (tok k g r) (col j l) := by
  rw [View.readCov_eq_canon']
  have h := View.canon_apply_of_pieces (Val := Elt Ideal) (scratch i arg1 arg2 arg4 arg5 arg6 arg7 v11 X1 X2 X4 X5 X6 X7 k)
    (pieces13 (F := Ideal) i arg1 arg2 arg4 arg5 arg6 arg7 v11 X1 X2 X4 X5 X6 X7 k g)
    (fun p hp x => ag13 i arg1 arg2 arg3 arg4 arg5 arg6 arg7 v11 X1 X2 X3 X4 X5 X6 X7 k g p hp x)
    ((rect13 g j).emb (ix3 (0 : Fin 1) r l)) ⟨_, (mem13 i arg1 arg2 arg4 arg5 arg6 arg7 v11 X1 X2 X4 X5 X6 X7 k g _).2 ⟨g, j, le_refl _, rfl⟩, by
      rw [← Rect.map_emb_univ]; exact Finset.mem_map_of_mem _ (Finset.mem_univ _)⟩
  refine h.trans ?_
  rw [rect13_idx]; rfl

theorem mem11 (p : View.Piece (Elt Ideal) S1x1024x1152 .fp8e5m2) :
    p ∈ pieces11 (F := Ideal) i arg1 arg2 arg4 arg5 arg6 arg7 arg13 v11 X1 X2 X4 X5 X6 X7 k ↔ ∃ g j, p =
      ⟨rect k g j, quant (load k arg1 X1 g) (load k arg4 X4 g) (load k arg6 X6 g) (part (scales i k arg2 X2) g)
        (part (scales i k arg5 X5) g) (part (scales i k arg7 X7) g) (k0_pay1 v11)
        (arg13.view.readCov (pieces13 (F := Ideal) i arg1 arg2 arg4 arg5 arg6 arg7 v11 X1 X2 X4 X5 X6 X7 k g) (rect13 g j).toLoadRect)⟩ := by
  have h4 : ∀ P : Fin 4 → Prop, (∃ g, P g) ↔ P 0 ∨ P 1 ∨ P 2 ∨ P 3 := fun P => by
    constructor
    · rintro ⟨g, h⟩; fin_cases g <;> simp_all
    · rintro (h | h | h | h) <;> exact ⟨_, h⟩
  rw [h4]
  simp only [pieces11, mem_each9, List.not_mem_nil, or_false]; tauto

include arg3 X3 in
theorem ag11 (p : View.Piece (Elt Ideal) S1x1024x1152 .fp8e5m2)
    (hp : p ∈ pieces11 (F := Ideal) i arg1 arg2 arg4 arg5 arg6 arg7 arg13 v11 X1 X2 X4 X5 X6 X7 k) (x) :
    p.2 x = codes11 i arg1 arg2 arg4 arg5 arg6 arg7 v11 X1 X2 X4 X5 X6 X7 (p.1.emb x) := by
  obtain ⟨g, j, rfl⟩ := (mem11 i arg1 arg2 arg4 arg5 arg6 arg7 arg13 v11 X1 X2 X4 X5 X6 X7 k p).1 hp
  have key : ∀ z : S1x32x128.Idx, quant (F := Ideal) (load k arg1 X1 g) (load k arg4 X4 g) (load k arg6 X6 g) (part (scales i k arg2 X2) g)
        (part (scales i k arg5 X5) g) (part (scales i k arg7 X7) g) (k0_pay1 v11)
        (arg13.view.readCov (pieces13 (F := Ideal) i arg1 arg2 arg4 arg5 arg6 arg7 v11 X1 X2 X4 X5 X6 X7 k g) (rect13 g j).toLoadRect) z =
      codes11 i arg1 arg2 arg4 arg5 arg6 arg7 v11 X1 X2 X4 X5 X6 X7 ((rect k g j).emb z) := by
    intro z
    idx_vars z
    obtain rfl : z0 = 0 := Subsingleton.elim _ _
    rw [rect_idx]
    exact quant_at (row_at i arg1 arg2 arg3 arg4 arg5 arg6 arg7 v11 X1 X2 X3 X4 X5 X6 X7 k g z1) _ j z2
      (back13 i arg1 arg2 arg3 arg4 arg5 arg6 arg7 arg13 v11 X1 X2 X3 X4 X5 X6 X7 k g j z1 z2)
  exact key x

theorem rect10_idx (j : Fin 9) (a : Fin 3) (l : Fin 128) :
    (rect10 k j).emb (ix4 (0 : Fin 1) (0 : Fin 1) a l) = ix4 (0 : Fin 1) (⟨k.val, trips8 k⟩ : Fin 8) a (col j l) := by
  funext t
  refine Fin.ext ?_
  have h := congrFun (offs10_eq k j) t
  show offs10 k j t + 1 * _ = _
  rw [h]
  fin_cases t <;> simp [col, ix4] <;> omega

theorem mem10 (p : View.Piece (Elt Ideal) S1x8x3x1152 .f32) :
    p ∈ pieces10 (F := Ideal) i arg1 arg2 arg3 arg4 arg5 arg6 arg7 X1 X2 X3 X4 X5 X6 X7 k ↔ ∃ j, p =
      ⟨rect10 k j, sums3 (blockSum fun g => dh (load k arg6 X6 g) (part (scales i k arg7 X7) g) j)
        (blockSum fun g => pr (load k arg1 X1 g) (load k arg6 X6 g) (part (scales i k arg2 X2) g) (part (scales i k arg7 X7) g) j)
        (blockSum fun g => pf (load k arg3 X3 g) (load k arg4 X4 g) (part (scales i k arg5 X5) g) j)⟩ := by
  simp only [pieces10, List.mem_cons, List.not_mem_nil, or_false]
  constructor
  · rintro (h | h | h | h | h | h | h | h | h) <;> exact ⟨_, h⟩
  · rintro ⟨j, h⟩
    fin_cases j <;> simp_all

theorem sum_block (w : Fin 1024 → EReal) : (∑ g : Fin 4, ∑ r : Fin 32, w (tok k g r)) =
    ∑ t : Fin 128, w ⟨128 * k.val + t.val, by have := trips8 k; omega⟩ := by
  rw [Fin.sum_univ_tiles 4 32 rfl (fun t : Fin 128 => w ⟨128 * k.val + t.val, by have := trips8 k; omega⟩)]
  refine Finset.sum_congr rfl fun g _ => Finset.sum_congr rfl fun r _ => congrArg w (Fin.ext ?_)
  simp [tok]; omega

theorem ag10 (p : View.Piece (Elt Ideal) S1x8x3x1152 .f32)
    (hp : p ∈ pieces10 (F := Ideal) i arg1 arg2 arg3 arg4 arg5 arg6 arg7 X1 X2 X3 X4 X5 X6 X7 k) (x) :
    p.2 x = sums10 i arg1 arg2 arg3 arg4 arg5 arg6 arg7 X1 X2 X3 X4 X5 X6 X7 (p.1.emb x) := by
  obtain ⟨j, rfl⟩ := (mem10 i arg1 arg2 arg3 arg4 arg5 arg6 arg7 X1 X2 X3 X4 X5 X6 X7 k p).1 hp
  have key : ∀ z : S1x1x3x128.Idx, sums3 (F := Ideal) (blockSum fun g => dh (load k arg6 X6 g) (part (scales i k arg7 X7) g) j)
        (blockSum fun g => pr (load k arg1 X1 g) (load k arg6 X6 g) (part (scales i k arg2 X2) g) (part (scales i k arg7 X7) g) j)
        (blockSum fun g => pf (load k arg3 X3 g) (load k arg4 X4 g) (part (scales i k arg5 X5) g) j) z =
      sums10 i arg1 arg2 arg3 arg4 arg5 arg6 arg7 X1 X2 X3 X4 X5 X6 X7 ((rect10 k j).emb z) := by
    intro z
    idx_vars z
    obtain rfl : z0 = 0 := Subsingleton.elim _ _
    obtain rfl : z1 = 0 := Subsingleton.elim _ _
    have R := fun g r => row_at i arg1 arg2 arg3 arg4 arg5 arg6 arg7 (fun _ => 0) X1 X2 X3 X4 X5 X6 X7 k g r
    rw [rect10_idx, sums3_at, blockSum_at, blockSum_at, blockSum_at]
    simp only [dh_at (R _ _), pr_at (R _ _), pf_at (R _ _)]
    refine Eq.trans ?_ (sum_block k fun t => vMod (rowOf i) (arg1.view.read (Elt Ideal) X1) (arg2.view.read (Elt Ideal) X2) (arg3.view.read (Elt Ideal) X3)
      (arg4.view.read (Elt Ideal) X4) (arg5.view.read (Elt Ideal) X5) (arg6.view.read (Elt Ideal) X6) (arg7.view.read (Elt Ideal) X7) z2 t (col j z3))
    fin_cases z2 <;> rfl
  exact key x

include arg3 X3 in
/-- The store of a block's scales, over contents that agree with `D` on the block's columns. -/
theorem ag12 (f12 : BufTy.Contents (Elt Ideal) arg12.view.ty) (D : S8x1024.Idx → EReal)
    (hD : ∀ z : S8x128.Idx, arg12.view.read (Elt Ideal) f12 ((rect2 k).emb z) = D ((rect2 k).emb z)) (x) :
    (piece12 (F := Ideal) i arg1 arg2 arg4 arg5 arg6 arg7 arg12 v11 X1 X2 X4 X5 X6 X7 k f12).2 x =
      scales12 i arg1 arg2 arg4 arg5 arg6 arg7 v11 X1 X2 X4 X5 X6 X7 D
        ((rect2 k).emb x) := by
  have key : ∀ z : S8x128.Idx, putRow (F := Ideal) (k0_pay2 i) (fun g => up (load k arg1 X1 g) (load k arg4 X4 g) (load k arg6 X6 g) (part (scales i k arg2 X2) g)
        (part (scales i k arg5 X5) g) (part (scales i k arg7 X7) g) (k0_pay1 v11))
      (shapeCast S8x128 (View.readAt (Elt Ideal) arg12.view (rect2 k).toLoadRect f12 : Vec Ideal S8x128 .f32) shapeCasts_S8x128_S8x128) z =
      scales12 i arg1 arg2 arg4 arg5 arg6 arg7 v11 X1 X2 X4 X5 X6 X7 D
        ((rect2 k).emb z) := by
    intro z
    idx_vars z
    rename' z0 => s, z1 => t
    obtain ⟨g, r, rfl⟩ : ∃ (g : Fin 4) (r : Fin 32), t = ⟨32 * g.val + r.val, by omega⟩ :=
      ⟨⟨t.val / 32, by omega⟩, ⟨t.val % 32, by omega⟩, Fin.ext (by simp; omega)⟩
    rw [putRow_at, up_at (row_at i arg1 arg2 arg3 arg4 arg5 arg6 arg7 v11 X1 X2 X3 X4 X5 X6 X7 k g r)]
    pointwise []
    have e := hD (ix2 s ⟨32 * g.val + r.val, by omega⟩)
    rw [rect2_idx] at *
    by_cases hs : s = rowOf i
    · rw [if_pos hs]
      exact (if_pos hs).symm
    · rw [if_neg hs]
      refine (show _ = arg12.view.read (Elt Ideal) f12 (ix2 s ⟨128 * k.val + (32 * g.val + r.val), _⟩) from
        congrArg (arg12.view.read (Elt Ideal) f12) (rect2_idx k s ⟨32 * g.val + r.val, by omega⟩)).trans ?_
      exact e.trans (if_neg hs).symm
  exact key x

end Pieces

theorem trips_eq : k0_t1_loop.trips = 8 := by decide +kernel

section Loop

variable (i : grid0.Coords) (arg1 : Memref sig .tc .vmem S1x1024x1152 .fp8e4m3) (harg1 : arg1.IsWhole) (arg2 : Memref sig .tc .vmem S8x1024 .f32) (harg2 : arg2.IsWhole)
  (arg3 : Memref sig .tc .vmem S1x1024x1152 .bf16) (harg3 : arg3.IsWhole) (arg4 : Memref sig .tc .vmem S1x1024x1152 .fp8e5m2) (harg4 : arg4.IsWhole)
  (arg5 : Memref sig .tc .vmem S8x1024 .f32) (harg5 : arg5.IsWhole) (arg6 : Memref sig .tc .vmem S1x1024x1152 .fp8e5m2) (harg6 : arg6.IsWhole)
  (arg7 : Memref sig .tc .vmem S8x1024 .f32) (harg7 : arg7.IsWhole) (arg8 : Memref sig .tc .vmem S8x1152 .f32) (harg8 : arg8.IsWhole)
  (arg9 : Memref sig .tc .vmem S1x3x1152 .f32) (harg9 : arg9.IsWhole) (arg10 : Memref sig .tc .vmem S1x8x3x1152 .f32) (harg10 : arg10.IsWhole)
  (arg11 : Memref sig .tc .vmem S1x1024x1152 .fp8e5m2) (harg11 : arg11.IsWhole) (arg12 : Memref sig .tc .vmem S8x1024 .f32) (harg12 : arg12.IsWhole)
  (arg13 : Memref sig .tc .vmem S4x32x1152 .f32) (harg13 : arg13.IsWhole)
  (𝒱 : Variants) (c : Dev nD) (bd : Option 𝒱.V)
  (v11 : Vec Ideal S1x1152 .f32) (X1 : BufTy.Contents (Elt Ideal) arg1.view.ty) (X2 : BufTy.Contents (Elt Ideal) arg2.view.ty)
  (X3 : BufTy.Contents (Elt Ideal) arg3.view.ty) (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty)
  (f10 : BufTy.Contents (Elt Ideal) arg10.view.ty) (f11 : BufTy.Contents (Elt Ideal) arg11.view.ty) (f12 : BufTy.Contents (Elt Ideal) arg12.view.ty)
  (f13 : BufTy.Contents (Elt Ideal) arg13.view.ty)

/-- The stores of the trips before `n`. -/
abbrev trips (n : ℕ) := pb_k0_t1 (F := Ideal) 𝒱 c bd i arg1 harg1 arg2 harg2 arg3 harg3 arg4 harg4 arg5 harg5 arg6 harg6 arg7 harg7 arg8 harg8 arg9 harg9
  arg10 harg10 arg11 harg11 arg12 harg12 arg13 harg13 v11 X1 X2 X3 X4 X5 X6 X7 f10 f11 f12 f13 n

/-- Every store of the trips before `n` holds what the buffer is to hold there, and the stores of a trip are where they should be. -/
theorem trips_ok (n : ℕ) (hn : n ≤ k0_t1_loop.trips) :
    let L := trips i arg1 harg1 arg2 harg2 arg3 harg3 arg4 harg4 arg5 harg5 arg6 harg6 arg7 harg7 arg8 harg8 arg9 harg9 arg10 harg10 arg11 harg11
      arg12 harg12 arg13 harg13 𝒱 c bd v11 X1 X2 X3 X4 X5 X6 X7 f10 f11 f12 f13 n
    ((∀ p ∈ L.1, ∀ x, p.2 x = sums10 i arg1 arg2 arg3 arg4 arg5 arg6 arg7 X1 X2 X3 X4 X5 X6 X7 (p.1.emb x)) ∧
      ∀ k : Fin k0_t1_loop.trips, k.val < n → ∀ j, ∃ p ∈ L.1, p.1 = rect10 k j) ∧
    ((∀ p ∈ L.2.1, ∀ x, p.2 x = codes11 i arg1 arg2 arg4 arg5 arg6 arg7 v11 X1 X2 X4 X5 X6 X7 (p.1.emb x)) ∧
      ∀ k : Fin k0_t1_loop.trips, k.val < n → ∀ g j, ∃ p ∈ L.2.1, p.1 = rect k g j) ∧
    ((∀ p ∈ L.2.2.1, (∀ x, p.2 x = scales12 i arg1 arg2 arg4 arg5 arg6 arg7 v11 X1 X2 X4 X5 X6 X7 (arg12.view.read (Elt Ideal) f12) (p.1.emb x)) ∧
        ∃ k : Fin k0_t1_loop.trips, k.val < n ∧ p.1 = rect2 k) ∧
      ∀ k : Fin k0_t1_loop.trips, k.val < n → ∃ p ∈ L.2.2.1, p.1 = rect2 k) := by
  induction n with
  | zero =>
    intro L
    have e : L = ([], [], [], []) := pb_k0_t1.eq_1 ..
    rw [e]
    refine ⟨⟨?_, ?_⟩, ⟨?_, ?_⟩, ⟨?_, ?_⟩⟩ <;> first | (intro p hp; exact absurd hp List.not_mem_nil) | (intro k hk; exact absurd hk (Nat.not_lt_zero _))
  | succ n ih =>
    intro L
    have ih := ih (by omega)
    have e := pb_k0_t1_succ (F := Ideal) 𝒱 c bd i arg1 harg1 arg2 harg2 arg3 harg3 arg4 harg4 arg5 harg5 arg6 harg6 arg7 harg7 arg8 harg8 arg9 harg9
      arg10 harg10 arg11 harg11 arg12 harg12 arg13 harg13 v11 X1 X2 X3 X4 X5 X6 X7 f10 f11 f12 f13 ⟨n, hn⟩
    rw [tripL_eq] at e
    change L = _ at e
    rw [e]
    obtain ⟨⟨a1, a2⟩, ⟨b1, b2⟩, ⟨c1, c2⟩⟩ := ih
    refine ⟨⟨?_, ?_⟩, ⟨?_, ?_⟩, ⟨?_, ?_⟩⟩
    · intro p hp
      rcases List.mem_append.1 hp with h | h
      · exact ag10 i arg1 arg2 arg3 arg4 arg5 arg6 arg7 X1 X2 X3 X4 X5 X6 X7 _ p h
      · exact a1 p h
    · intro k hk j
      rcases Nat.lt_succ_iff_lt_or_eq.1 hk with h | h
      · obtain ⟨p, hp, he⟩ := a2 k h j
        exact ⟨p, List.mem_append_right _ hp, he⟩
      · obtain rfl : k = ⟨n, hn⟩ := Fin.ext h
        exact ⟨_, List.mem_append_left _ ((mem10 i arg1 arg2 arg3 arg4 arg5 arg6 arg7 X1 X2 X3 X4 X5 X6 X7 _ _).2 ⟨j, rfl⟩), rfl⟩
    · intro p hp
      rcases List.mem_append.1 hp with h | h
      · exact ag11 i arg1 arg2 arg3 arg4 arg5 arg6 arg7 arg13 v11 X1 X2 X3 X4 X5 X6 X7 _ p h
      · exact b1 p h
    · intro k hk g j
      rcases Nat.lt_succ_iff_lt_or_eq.1 hk with h | h
      · obtain ⟨p, hp, he⟩ := b2 k h g j
        exact ⟨p, List.mem_append_right _ hp, he⟩
      · obtain rfl : k = ⟨n, hn⟩ := Fin.ext h
        exact ⟨_, List.mem_append_left _ ((mem11 i arg1 arg2 arg4 arg5 arg6 arg7 arg13 v11 X1 X2 X4 X5 X6 X7 _ _).2 ⟨g, j, rfl⟩), rfl⟩
    · intro p hp
      rcases List.mem_append.1 hp with h | h
      · obtain rfl := List.mem_singleton.1 h
        refine ⟨ag12 i arg1 arg2 arg3 arg4 arg5 arg6 arg7 arg12 v11 X1 X2 X3 X4 X5 X6 X7 _ _ _ fun z => ?_, ⟨⟨n, hn⟩, Nat.lt_succ_self n, rfl⟩⟩
        refine congrFun (View.readAt_writes_of_forall_not_mem arg12.view f12 _ (rect2 ⟨n, hn⟩).toLoadRect fun j q hq => ?_) z
        obtain ⟨-, k, hk, he⟩ := c1 q hq
        rw [he]
        intro hm
        rw [Rect.mem_set_unit] at hm
        have h1 := hm 1
        have h2 : ((rect2 ⟨n, hn⟩).toLoadRect.idx j 1).val = k0_off2 ⟨n, hn⟩ 1 + 1 * (j 1).val := rfl
        have h3 : (j 1).val < 128 := (j 1).isLt
        have h4 : k0_off2 ⟨n, hn⟩ 1 = 128 * n := congrFun (k0_off2_eq ⟨n, hn⟩) 1
        have h5 : k0_off2 k 1 = 128 * k.val := congrFun (k0_off2_eq k) 1
        have h6 : S8x128.size 1 = 128 := rfl
        omega
      · obtain ⟨h1, k, hk, he⟩ := c1 p h
        exact ⟨h1, k, Nat.lt_succ_of_lt hk, he⟩
    · intro k hk
      rcases Nat.lt_succ_iff_lt_or_eq.1 hk with h | h
      · obtain ⟨p, hp, he⟩ := c2 k h
        exact ⟨p, List.mem_append_right _ hp, he⟩
      · obtain rfl : k = ⟨n, hn⟩ := Fin.ext h
        exact ⟨_, List.mem_append_left _ (List.mem_singleton.2 rfl), rfl⟩

/-- What the three outputs hold after the loop. -/
theorem read10 : arg10.view.read (Elt Ideal) (arg10.view.writes (Elt Ideal) f10 (trips i arg1 harg1 arg2 harg2 arg3 harg3 arg4 harg4 arg5 harg5 arg6 harg6 arg7 harg7 arg8 harg8 arg9 harg9 arg10 harg10 arg11 harg11
      arg12 harg12 arg13 harg13 𝒱 c bd v11 X1 X2 X3 X4 X5 X6 X7 f10 f11 f12 f13 k0_t1_loop.trips).1) =
    sums10 i arg1 arg2 arg3 arg4 arg5 arg6 arg7 X1 X2 X3 X4 X5 X6 X7 := by
  obtain ⟨⟨a1, a2⟩, -, -⟩ := trips_ok i arg1 harg1 arg2 harg2 arg3 harg3 arg4 harg4 arg5 harg5 arg6 harg6 arg7 harg7 arg8 harg8 arg9 harg9 arg10 harg10 arg11 harg11
    arg12 harg12 arg13 harg13 𝒱 c bd v11 X1 X2 X3 X4 X5 X6 X7 f10 f11 f12 f13 _ le_rfl
  funext y
  have hy : ∃ p ∈ (trips i arg1 harg1 arg2 harg2 arg3 harg3 arg4 harg4 arg5 harg5 arg6 harg6 arg7 harg7 arg8 harg8 arg9 harg9 arg10 harg10 arg11 harg11
      arg12 harg12 arg13 harg13 𝒱 c bd v11 X1 X2 X3 X4 X5 X6 X7 f10 f11 f12 f13 k0_t1_loop.trips).1, y ∈ p.1.set := by
    idx_vars y
    obtain ⟨j, l, rfl⟩ := col_surj y3
    obtain rfl : y0 = 0 := Subsingleton.elim _ _
    have hk : y1.val < k0_t1_loop.trips := by rw [trips_eq]; exact y1.isLt
    obtain ⟨p, hp, he⟩ := a2 ⟨y1.val, hk⟩ hk j
    refine ⟨p, hp, ?_⟩
    rw [he, ← Rect.map_emb_univ]
    exact Finset.mem_map.2 ⟨ix4 0 0 y2 l, Finset.mem_univ _, rect10_idx ⟨y1.val, hk⟩ j y2 l⟩
  rw [View.read_writes_apply_eq_canon _ _ _ _ hy]
  exact View.canon_apply_of_pieces _ _ a1 y hy

theorem read11 : arg11.view.read (Elt Ideal) (arg11.view.writes (Elt Ideal) f11 (trips i arg1 harg1 arg2 harg2 arg3 harg3 arg4 harg4 arg5 harg5 arg6 harg6 arg7 harg7 arg8 harg8 arg9 harg9 arg10 harg10 arg11 harg11
      arg12 harg12 arg13 harg13 𝒱 c bd v11 X1 X2 X3 X4 X5 X6 X7 f10 f11 f12 f13 k0_t1_loop.trips).2.1) =
    codes11 i arg1 arg2 arg4 arg5 arg6 arg7 v11 X1 X2 X4 X5 X6 X7 := by
  obtain ⟨-, ⟨a1, a2⟩, -⟩ := trips_ok i arg1 harg1 arg2 harg2 arg3 harg3 arg4 harg4 arg5 harg5 arg6 harg6 arg7 harg7 arg8 harg8 arg9 harg9 arg10 harg10 arg11 harg11
    arg12 harg12 arg13 harg13 𝒱 c bd v11 X1 X2 X3 X4 X5 X6 X7 f10 f11 f12 f13 _ le_rfl
  funext y
  have hy : ∃ p ∈ (trips i arg1 harg1 arg2 harg2 arg3 harg3 arg4 harg4 arg5 harg5 arg6 harg6 arg7 harg7 arg8 harg8 arg9 harg9 arg10 harg10 arg11 harg11
      arg12 harg12 arg13 harg13 𝒱 c bd v11 X1 X2 X3 X4 X5 X6 X7 f10 f11 f12 f13 k0_t1_loop.trips).2.1, y ∈ p.1.set := by
    idx_vars y
    obtain ⟨j, l, rfl⟩ := col_surj y2
    obtain rfl : y0 = 0 := Subsingleton.elim _ _
    have h1 := y1.isLt
    have hk : y1.val / 128 < k0_t1_loop.trips := by rw [trips_eq]; omega
    obtain ⟨p, hp, he⟩ := a2 ⟨y1.val / 128, hk⟩ hk ⟨y1.val % 128 / 32, by omega⟩ j
    refine ⟨p, hp, ?_⟩
    rw [he, ← Rect.map_emb_univ]
    refine Finset.mem_map.2 ⟨ix3 0 ⟨y1.val % 32, by omega⟩ l, Finset.mem_univ _, (rect_idx ⟨y1.val / 128, hk⟩ _ j _ l).trans ?_⟩
    exact congrArg (fun t => ix3 (0 : Fin 1) t (col j l)) (Fin.ext (by simp only [tok]; omega))
  rw [View.read_writes_apply_eq_canon _ _ _ _ hy]
  exact View.canon_apply_of_pieces _ _ a1 y hy

theorem read12 : arg12.view.read (Elt Ideal) (arg12.view.writes (Elt Ideal) f12 (trips i arg1 harg1 arg2 harg2 arg3 harg3 arg4 harg4 arg5 harg5 arg6 harg6 arg7 harg7 arg8 harg8 arg9 harg9 arg10 harg10 arg11 harg11
      arg12 harg12 arg13 harg13 𝒱 c bd v11 X1 X2 X3 X4 X5 X6 X7 f10 f11 f12 f13 k0_t1_loop.trips).2.2.1) =
    scales12 i arg1 arg2 arg4 arg5 arg6 arg7 v11 X1 X2 X4 X5 X6 X7 (arg12.view.read (Elt Ideal) f12) := by
  obtain ⟨-, -, ⟨a1, a2⟩⟩ := trips_ok i arg1 harg1 arg2 harg2 arg3 harg3 arg4 harg4 arg5 harg5 arg6 harg6 arg7 harg7 arg8 harg8 arg9 harg9 arg10 harg10 arg11 harg11
    arg12 harg12 arg13 harg13 𝒱 c bd v11 X1 X2 X3 X4 X5 X6 X7 f10 f11 f12 f13 _ le_rfl
  funext y
  have hy : ∃ p ∈ (trips i arg1 harg1 arg2 harg2 arg3 harg3 arg4 harg4 arg5 harg5 arg6 harg6 arg7 harg7 arg8 harg8 arg9 harg9 arg10 harg10 arg11 harg11
      arg12 harg12 arg13 harg13 𝒱 c bd v11 X1 X2 X3 X4 X5 X6 X7 f10 f11 f12 f13 k0_t1_loop.trips).2.2.1, y ∈ p.1.set := by
    idx_vars y
    have h1 := y1.isLt
    have hk : y1.val / 128 < k0_t1_loop.trips := by rw [trips_eq]; omega
    obtain ⟨p, hp, he⟩ := a2 ⟨y1.val / 128, hk⟩ hk
    refine ⟨p, hp, ?_⟩
    rw [he, ← Rect.map_emb_univ]
    refine Finset.mem_map.2 ⟨ix2 y0 ⟨y1.val % 128, by omega⟩, Finset.mem_univ _, (rect2_idx ⟨y1.val / 128, hk⟩ _ _).trans ?_⟩
    exact congrArg (fun t => ix2 y0 t) (Fin.ext (by simp only []; omega))
  rw [View.read_writes_apply_eq_canon _ _ _ _ hy]
  exact View.canon_apply_of_pieces _ _ (fun p hp x => (a1 p hp).1 x) y hy

end Loop

end Cert.KernelIdeal.Group
-- ==== Proof.Run.lean ====
/- The body's run at a grid point, its outputs named: the modulation's gradients summed over all tokens and over each block of
   128 tokens, the codes of the quantised gradient, and the scales — the last in the row of the grid point's sequence, the
   other seven rows as they were found. -/
module

public import proofs.«01_k».proof.Proof.Pieces
public import proofs.«01_k».proof.Proof.Gen.KernelIdeal.Frame

@[expose] public section

set_option maxRecDepth 16384

noncomputable section

namespace Cert.KernelIdeal.Group

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

section Outs

variable (b : Fin 8) (x0 : Vec Ideal S1x1024x1152 .fp8e4m3) (x1 : Vec Ideal S8x1024 .f32) (x2 : Vec Ideal S1x1024x1152 .bf16)
  (x3 : Vec Ideal S1x1024x1152 .fp8e5m2) (x4 : Vec Ideal S8x1024 .f32) (x5 : Vec Ideal S1x1024x1152 .fp8e5m2) (x6 : Vec Ideal S8x1024 .f32)
  (x7 : Vec Ideal S8x1152 .f32)

/-- The modulation of a sequence: one more than the stored row. -/
def vM (q : Fin 1152) : EReal := 1 + x7 (ix2 b q)
/-- What the body leaves in its four outputs. -/
def oSum : Vec Ideal S1x8x3x1152 .f32 := fun y => vSum b x0 x1 x2 x3 x4 x5 x6 (y 1) (y 2) (y 3)
def oMod : Vec Ideal S1x3x1152 .f32 := k0_pay4 (F := Ideal) (oSum b x0 x1 x2 x3 x4 x5 x6)
def oCodes : Vec Ideal S1x1024x1152 .fp8e5m2 := fun y => vQ b x0 x1 x3 x4 x5 x6 (vM b x7) (y 1) (y 2)
def oScales (D : Vec Ideal S8x1024 .f32) : Vec Ideal S8x1024 .f32 := fun y =>
  let s : Fin 8 := y 0
  if s = b then vUp b x0 x1 x3 x4 x5 x6 (vM b x7) (y 1) else D y

end Outs

/-- The row of the modulation the body loads. -/
theorem row_mod (i : grid0.Coords) (arg8 : Memref sig .tc .vmem S8x1152 .f32) (harg8 : arg8.IsWhole) (x7 : Vec Ideal S8x1152 .f32) :
    (fun q => k0_pay1 (F := Ideal) (View.readAt (Elt Ideal) arg8.view (Rect.unit (s := S8x1152) (k0_off1 i) S1x1152.size (k0_off1_inb i)).toLoadRect (harg8.unread x7))
      (ix2 0 q)) = vM (rowOf i) x7 := by
  funext q
  pointwise [k0_pay1]
  unfold vM
  refine congrArg ((1 : EReal) + ·) ?_
  have e : (Rect.unit (s := S8x1152) (k0_off1 i) S1x1152.size (k0_off1_inb i)).emb (ix2 (0 : Fin 1) q) = ix2 (rowOf i) q := by
    funext a
    refine Fin.ext ?_
    have h := congrFun (off1_eq i) a
    show k0_off1 i a + 1 * _ = _
    rw [h]
    fin_cases a <;> simp [ix2]
  exact (congrArg (arg8.view.read (Elt Ideal) (harg8.unread x7)) e).trans (congrFun (harg8.read_unread x7) _)

theorem whole9 (h) (y : S1x3x1152.Idx) : (Rect.unit (s := S1x3x1152) ![0, 0, 0] S1x3x1152.size h).emb y = y := by
  funext a
  refine Fin.ext ?_
  show (![0, 0, 0] : Fin 3 → Nat) a + 1 * _ = _
  fin_cases a <;> simp

/-- A buffer stored whole holds what was stored. -/
theorem read_whole9 (a : Memref sig .tc .vmem S1x3x1152 .f32) (f : BufTy.Contents (Elt Ideal) a.view.ty) (v w : Vec Ideal S1x3x1152 .f32) (e : v = w)
    {h} : a.view.read (Elt Ideal) (a.view.writes (Elt Ideal) f [⟨Rect.unit (s := S1x3x1152) ![0, 0, 0] S1x3x1152.size h, v⟩]) = w := by
  subst e
  funext y
  have hy : ∃ p ∈ ([⟨Rect.unit (s := S1x3x1152) ![0, 0, 0] S1x3x1152.size h, v⟩] : List (View.Piece (Elt Ideal) S1x3x1152 .f32)), y ∈ p.1.set :=
    ⟨_, List.mem_singleton.2 rfl, by rw [← Rect.map_emb_univ]; exact Finset.mem_map.2 ⟨y, Finset.mem_univ _, whole9 h y⟩⟩
  rw [View.read_writes_apply_eq_canon _ _ _ _ hy]
  refine View.canon_apply_of_pieces v _ (fun p hp x => ?_) y hy
  obtain rfl := List.mem_singleton.1 hp
  exact congrArg v (whole9 h x).symm

/-- A buffer loaded whole is what it holds. -/
theorem read_whole10 (a : Memref sig .tc .vmem S1x8x3x1152 .f32) (f : BufTy.Contents (Elt Ideal) a.view.ty) (w : Vec Ideal S1x8x3x1152 .f32)
    (e : a.view.read (Elt Ideal) f = w) {h} :
    a.view.readAt (Elt Ideal) (Rect.unit (s := S1x8x3x1152) ![0, 0, 0, 0] S1x8x3x1152.size h).toLoadRect f = w := by
  subst e
  funext y
  refine congrArg (a.view.read (Elt Ideal) f) ?_
  funext a
  refine Fin.ext ?_
  show (![0, 0, 0, 0] : Fin 4 → Nat) a + 1 * _ = _
  fin_cases a <;> simp

set_option maxHeartbeats 1000000 in
/-- The body on whole staging memrefs. -/
theorem run_point (c : Dev nD) (i : grid0.Coords) (arg1 : Memref sig .tc .vmem S1x1024x1152 .fp8e4m3) (harg1 : arg1.IsWhole) (arg2 : Memref sig .tc .vmem S8x1024 .f32) (harg2 : arg2.IsWhole) (arg3 : Memref sig .tc .vmem S1x1024x1152 .bf16) (harg3 : arg3.IsWhole) (arg4 : Memref sig .tc .vmem S1x1024x1152 .fp8e5m2) (harg4 : arg4.IsWhole) (arg5 : Memref sig .tc .vmem S8x1024 .f32) (harg5 : arg5.IsWhole) (arg6 : Memref sig .tc .vmem S1x1024x1152 .fp8e5m2) (harg6 : arg6.IsWhole) (arg7 : Memref sig .tc .vmem S8x1024 .f32) (harg7 : arg7.IsWhole) (arg8 : Memref sig .tc .vmem S8x1152 .f32) (harg8 : arg8.IsWhole) (arg9 : Memref sig .tc .vmem S1x3x1152 .f32) (harg9 : arg9.IsWhole) (arg10 : Memref sig .tc .vmem S1x8x3x1152 .f32) (harg10 : arg10.IsWhole) (arg11 : Memref sig .tc .vmem S1x1024x1152 .fp8e5m2) (harg11 : arg11.IsWhole) (arg12 : Memref sig .tc .vmem S8x1024 .f32) (harg12 : arg12.IsWhole) (arg13 : Memref sig .tc .vmem S4x32x1152 .f32) (harg13 : arg13.IsWhole)
    (x0 : Vec Ideal S1x1024x1152 .fp8e4m3) (x1 : Vec Ideal S8x1024 .f32) (x2 : Vec Ideal S1x1024x1152 .bf16) (x3 : Vec Ideal S1x1024x1152 .fp8e5m2) (x4 : Vec Ideal S8x1024 .f32) (x5 : Vec Ideal S1x1024x1152 .fp8e5m2) (x6 : Vec Ideal S8x1024 .f32) (x7 : Vec Ideal S8x1152 .f32) (d11 : Vec Ideal S8x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare d11 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (oMod (rowOf i) x0 x1 x2 x3 x4 x5 x6) ∗ owns (c : Thread nD τ) arg10 fullShare (oSum (rowOf i) x0 x1 x2 x3 x4 x5 x6) ∗ owns (c : Thread nD τ) arg11 fullShare (oCodes (rowOf i) x0 x1 x3 x4 x5 x6 x7) ∗ owns (c : Thread nD τ) arg12 fullShare (oScales (rowOf i) x0 x1 x3 x4 x5 x6 x7 d11) ∗ (∃ d, owns (c : Thread nD τ) arg13 fullShare d)) -∗ K ⟨⟩))
          ⊢ wp frame (wpE (defs₀ (F := Ideal)) Variants.none c none) E (cc0_adaln_bwd i arg1 harg1 arg2 harg2 arg3 harg3 arg4 harg4 arg5 harg5 arg6 harg6 arg7 harg7 arg8 harg8 arg9 harg9 arg10 harg10 arg11 harg11 arg12 harg12 arg13 harg13) K := by
    intro E K
    simp only [cc0_adaln_bwd_eq_skeleton]; unfold cc0_adaln_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    have h10 := (read10 i arg1 harg1 arg2 harg2 arg3 harg3 arg4 harg4 arg5 harg5 arg6 harg6 arg7 harg7 arg8 harg8 arg9 harg9 arg10 harg10 arg11 harg11
        arg12 harg12 arg13 harg13 Variants.none c none (View.readAt (Elt Ideal) arg8.view (Rect.unit (s := S8x1152) (k0_off1 i) S1x1152.size (k0_off1_inb i)).toLoadRect (harg8.unread x7)) (harg1.unread x0) (harg2.unread x1) (harg3.unread x2) (harg4.unread x3) (harg5.unread x4) (harg6.unread x5) (harg7.unread x6)
        f9 f10 f11 fs0).trans
      (show _ = oSum (rowOf i) x0 x1 x2 x3 x4 x5 x6 by
        funext y; unfold sums10 wSum oSum
        rw [harg1.read_unread, harg2.read_unread, harg3.read_unread, harg4.read_unread, harg5.read_unread, harg6.read_unread, harg7.read_unread])
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap; · iexact H8
      ipureintro
      refine read_whole9 arg9 f8 _ _ ?_
      unfold run_point.sl.v18
      exact congrArg (k0_pay4 (F := Ideal)) (read_whole10 arg10 _ _ h10)
    isplitl [H9]
    · iexists _; isplitr; swap; · iexact H9
      ipureintro
      exact h10
    isplitl [H10]
    · iexists _; isplitr; swap; · iexact H10
      ipureintro
      refine (read11 i arg1 harg1 arg2 harg2 arg3 harg3 arg4 harg4 arg5 harg5 arg6 harg6 arg7 harg7 arg8 harg8 arg9 harg9 arg10 harg10 arg11 harg11
        arg12 harg12 arg13 harg13 Variants.none c none _ (harg1.unread x0) (harg2.unread x1) (harg3.unread x2) (harg4.unread x3) (harg5.unread x4) (harg6.unread x5) (harg7.unread x6)
        f9 f10 f11 fs0).trans ?_
      funext y; unfold codes11 wQ oCodes
      rw [harg1.read_unread, harg2.read_unread, harg4.read_unread, harg5.read_unread, harg6.read_unread, harg7.read_unread, row_mod i arg8 harg8 x7]
    isplitl [H11]
    · iexists _; isplitr; swap; · iexact H11
      ipureintro
      refine (read12 i arg1 harg1 arg2 harg2 arg3 harg3 arg4 harg4 arg5 harg5 arg6 harg6 arg7 harg7 arg8 harg8 arg9 harg9 arg10 harg10 arg11 harg11
        arg12 harg12 arg13 harg13 Variants.none c none _ (harg1.unread x0) (harg2.unread x1) (harg3.unread x2) (harg4.unread x3) (harg5.unread x4) (harg6.unread x5) (harg7.unread x6)
        f9 f10 f11 fs0).trans ?_
      funext y; unfold scales12 wUp oScales
      rw [harg1.read_unread, harg2.read_unread, harg4.read_unread, harg5.read_unread, harg6.read_unread, harg7.read_unread, row_mod i arg8 harg8 x7, hf11]
    iexists _, _; isplitr; swap; · iexact HS0
    ipureintro; rfl

end Cert.KernelIdeal.Group
-- ==== Proof.Data.lean ====
/- The proof data of the kernel's pipeline and its run. Every window but the last is written whole at each grid point, and its
   data are exact; the last (the scales of eight sequences, one row written per grid point) is stated as a relation: what a point
   leaves is what it found with the row of its own sequence replaced. -/
module

public import proofs.«01_k».proof.Proof.Run
public import Idealize.ShloMosaic.Lib.Pipeline.Frame

@[expose] public section

set_option maxRecDepth 16384

noncomputable section

namespace Cert.KernelIdeal.Group

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The row of a grid point's sequence among the eight its block holds. -/
abbrev rowAt (t : Fin cfg0.N) : Fin 8 := rowOf (grid0.coords t)

/-- What a grid point leaves in the block of scales it found holding `Y`. -/
def leftScales (c : Dev nD) (t : Fin cfg0.N) (Y : Vec Ideal S8x1024 .f32) : Vec Ideal S8x1024 .f32 :=
  oScales (rowAt t) (iblk m c 0 t) (iblk m c 1 t) (iblk m c 3 t) (iblk m c 4 t) (iblk m c 5 t) (iblk m c 6 t) (iblk m c 7 t) Y

/-- The exact data: inputs in place, the first three outputs what the body computes from the inputs' blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oMod (rowAt t) (iblk m c 0 t) (iblk m c 1 t) (iblk m c 2 t) (iblk m c 3 t) (iblk m c 4 t) (iblk m c 5 t) (iblk m c 6 t)
    | ⟨9, _⟩ => oSum (rowAt t) (iblk m c 0 t) (iblk m c 1 t) (iblk m c 2 t) (iblk m c 3 t) (iblk m c 4 t) (iblk m c 5 t) (iblk m c 6 t)
    | ⟨10, _⟩ => oCodes (rowAt t) (iblk m c 0 t) (iblk m c 1 t) (iblk m c 3 t) (iblk m c 4 t) (iblk m c 5 t) (iblk m c 6 t) (iblk m c 7 t)
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = oMod (rowAt t) (iblk m c 0 t) (iblk m c 1 t) (iblk m c 2 t) (iblk m c 3 t) (iblk m c 4 t) (iblk m c 5 t) (iblk m c 6 t) := by dsimp only [dats]
theorem after0_9 (c : Dev nD) (t : Fin cfg0.N) : (dats m 0 c).after 9 t = oSum (rowAt t) (iblk m c 0 t) (iblk m c 1 t) (iblk m c 2 t) (iblk m c 3 t) (iblk m c 4 t) (iblk m c 5 t) (iblk m c 6 t) := by dsimp only [dats]
theorem after0_10 (c : Dev nD) (t : Fin cfg0.N) : (dats m 0 c).after 10 t = oCodes (rowAt t) (iblk m c 0 t) (iblk m c 1 t) (iblk m c 3 t) (iblk m c 4 t) (iblk m c 5 t) (iblk m c 6 t) (iblk m c 7 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The last window's relation, the others exact. -/
def scalesRel (c : Dev nD) : (w : Fin cfg0.W) → Option (Fin cfg0.N → ((cfg0.win w).block.Idx → Elt Ideal (cfg0.win w).elt) → ((cfg0.win w).block.Idx → Elt Ideal (cfg0.win w).elt) → Prop)
  | ⟨11, _⟩ => some fun t Y X => X = leftScales m c t Y
  | _ => none

/-- The relational data. -/
def rdat (c : Dev nD) : RDat τ (Elt Ideal) Unit ℕ (UR sig nD τ) ℕ cfg0 c := (dats m 0 c).toR.override (scalesRel m c)

theorem rdat_A (c : Dev nD) (w : Fin cfg0.W) : (rdat m c).A w = V m c (Pipeline.arrRef spec0 w) := A_eq m c w

theorem after_exact (c : Dev nD) (w : Fin cfg0.W) (h : scalesRel m c w = none) (hi : cfg0.loose w = false) (t : Fin cfg0.N) (Y)
    (hd : cfg0.idle w (cfg0.grid.coords t) = false) : (rdat m c).after w t Y ((dats m 0 c).after w t) := by
  unfold rdat
  rw [RDat.override_after_of_eq_none _ h]
  refine (Dat.Leaves.live_iff _ (.inl hd)).2 ?_
  rw [hi]

theorem after_scales (c : Dev nD) (t : Fin cfg0.N) (Y X) : (rdat m c).after 11 t Y X ↔ X = leftScales m c t Y := by
  unfold rdat
  rw [RDat.override_after_of_eq_some _ (show scalesRel m c 11 = some _ from rfl)]

theorem finds_exact (c : Dev nD) (w : Fin cfg0.W) (h : scalesRel m c w = none) (t : Fin cfg0.N) (X) (hX : (rdat m c).Finds w t X) :
    ∃ d, X = (dats m 0 c).before w t d :=
  Dat.toR_finds _ w t X ((RDat.override_finds _ h t X).1 hX)

/-- Each window's current staging memref at point `t`, spelled as the pipeline passes it (`bodyAt0`), and its wholeness. -/
abbrev ms0_0 (t : Fin cfg0.N) : Memref sig .tc .vmem S1x1024x1152 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1152 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1152 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1152 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x1152 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x3x1152 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x3x1152 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024x1152 .fp8e5m2 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x1024 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S4x32x1152 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the body is called with at point `t`, the inputs' blocks in place, -/
def bodyPre (c : Dev nD) (t : Fin cfg0.N) (Y : (w : Fin cfg0.W) → (cfg0.win w).block.Idx → Elt Ideal (cfg0.win w).elt) : sProp 𝕄 :=
  iprop((rdat m c).Φ t.castSucc ∗ (rdat m c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (Y 8)
    ∗ owns (c : Thread nD τ) (ms0_9 t) fullShare (Y 9)
    ∗ owns (c : Thread nD τ) (ms0_10 t) fullShare (Y 10)
    ∗ owns (c : Thread nD τ) (ms0_11 t) fullShare (Y 11))

/-- and what it returns. -/
def bodyPost (c : Dev nD) (t : Fin cfg0.N) (Y : (w : Fin cfg0.W) → (cfg0.win w).block.Idx → Elt Ideal (cfg0.win w).elt) : sProp 𝕄 :=
  iprop((rdat m c).Φ t.succ ∗ (rdat m c).owesAt () t.succ
    ∗ (∃ X, ⌜(rdat m c).after 0 t (iblk m c 0 t) X⌝ ∗ owns (c : Thread nD τ) (ms0_0 t) fullShare X)
    ∗ (∃ X, ⌜(rdat m c).after 1 t (iblk m c 1 t) X⌝ ∗ owns (c : Thread nD τ) (ms0_1 t) fullShare X)
    ∗ (∃ X, ⌜(rdat m c).after 2 t (iblk m c 2 t) X⌝ ∗ owns (c : Thread nD τ) (ms0_2 t) fullShare X)
    ∗ (∃ X, ⌜(rdat m c).after 3 t (iblk m c 3 t) X⌝ ∗ owns (c : Thread nD τ) (ms0_3 t) fullShare X)
    ∗ (∃ X, ⌜(rdat m c).after 4 t (iblk m c 4 t) X⌝ ∗ owns (c : Thread nD τ) (ms0_4 t) fullShare X)
    ∗ (∃ X, ⌜(rdat m c).after 5 t (iblk m c 5 t) X⌝ ∗ owns (c : Thread nD τ) (ms0_5 t) fullShare X)
    ∗ (∃ X, ⌜(rdat m c).after 6 t (iblk m c 6 t) X⌝ ∗ owns (c : Thread nD τ) (ms0_6 t) fullShare X)
    ∗ (∃ X, ⌜(rdat m c).after 7 t (iblk m c 7 t) X⌝ ∗ owns (c : Thread nD τ) (ms0_7 t) fullShare X)
    ∗ (∃ X, ⌜(rdat m c).after 8 t (Y 8) X⌝ ∗ owns (c : Thread nD τ) (ms0_8 t) fullShare X)
    ∗ (∃ X, ⌜(rdat m c).after 9 t (Y 9) X⌝ ∗ owns (c : Thread nD τ) (ms0_9 t) fullShare X)
    ∗ (∃ X, ⌜(rdat m c).after 10 t (Y 10) X⌝ ∗ owns (c : Thread nD τ) (ms0_10 t) fullShare X)
    ∗ (∃ X, ⌜(rdat m c).after 11 t (Y 11) X⌝ ∗ owns (c : Thread nD τ) (ms0_11 t) fullShare X))

set_option maxHeartbeats 1600000 in
/-- The body at any point. -/
theorem sound_body (c : Dev nD) (t : Fin cfg0.N) (Y : (w : Fin cfg0.W) → (cfg0.win w).block.Idx → Elt Ideal (cfg0.win w).elt) :
    bodyPre m c t Y ⊢ wp frame (wpE (defs₀ (F := Ideal)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl]
  rw [show (rdat m c).Φ t.castSucc = Pipeline.ΦA spec0 c from rfl, PhiA0_eq]
  iintro ⟨⟨HS0, Hg⟩, Ho, H0, H1, H2, H3, H4, H5, H6, H7, H8, H9, H10, H11⟩
  iapply (run_point c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (Y 11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [HS0]; · iexact HS0
  iintro ⟨H0, H1, H2, H3, H4, H5, H6, H7, H8, H9, H10, H11, HS0⟩
  isplitl [HS0 Hg]
  · isplitl [HS0]
    · iexact HS0
    iexact Hg
  isplitl [Ho]; · iexact Ho
  isplitl [H0]
  · iexists _; isplitr; swap
    · iexact H0
    ipureintro; exact after0_0 m c t ▸ after_exact m c 0 rfl rfl t (iblk m c 0 t) rfl
  isplitl [H1]
  · iexists _; isplitr; swap
    · iexact H1
    ipureintro; exact after0_1 m c t ▸ after_exact m c 1 rfl rfl t (iblk m c 1 t) rfl
  isplitl [H2]
  · iexists _; isplitr; swap
    · iexact H2
    ipureintro; exact after0_2 m c t ▸ after_exact m c 2 rfl rfl t (iblk m c 2 t) rfl
  isplitl [H3]
  · iexists _; isplitr; swap
    · iexact H3
    ipureintro; exact after0_3 m c t ▸ after_exact m c 3 rfl rfl t (iblk m c 3 t) rfl
  isplitl [H4]
  · iexists _; isplitr; swap
    · iexact H4
    ipureintro; exact after0_4 m c t ▸ after_exact m c 4 rfl rfl t (iblk m c 4 t) rfl
  isplitl [H5]
  · iexists _; isplitr; swap
    · iexact H5
    ipureintro; exact after0_5 m c t ▸ after_exact m c 5 rfl rfl t (iblk m c 5 t) rfl
  isplitl [H6]
  · iexists _; isplitr; swap
    · iexact H6
    ipureintro; exact after0_6 m c t ▸ after_exact m c 6 rfl rfl t (iblk m c 6 t) rfl
  isplitl [H7]
  · iexists _; isplitr; swap
    · iexact H7
    ipureintro; exact after0_7 m c t ▸ after_exact m c 7 rfl rfl t (iblk m c 7 t) rfl
  isplitl [H8]
  · iexists _; isplitr; swap
    · iexact H8
    ipureintro; exact after0_8 m c t ▸ after_exact m c 8 rfl rfl t (Y 8) rfl
  isplitl [H9]
  · iexists _; isplitr; swap
    · iexact H9
    ipureintro; exact after0_9 m c t ▸ after_exact m c 9 rfl rfl t (Y 9) rfl
  isplitl [H10]
  · iexists _; isplitr; swap
    · iexact H10
    ipureintro; exact after0_10 m c t ▸ after_exact m c 10 rfl rfl t (Y 10) rfl
  iexists _; isplitr; swap
  · iexact H11
  ipureintro; exact (after_scales m c t (Y 11) _).2 rfl

/-- The window call's row at a point is the body at that point. -/
theorem defs₀_row (t : Fin cfg0.N) : defs₀ (F := Ideal) .tc cfg0.body (cfg0.bodyArgs t (cfg0.slots t)) = bodyAt0 t := by
  unfold defs₀; rw [Defs.onTc_tc]

/-- The body obligation, at every point. -/
theorem body_obligation (c : Dev nD) : (rdat m c).BodyObligation (defs₀ (F := Ideal)) Variants.none () Set.univ := fun t Y hY => by
  have h0 : Y 0 = iblk m c 0 t := by
    obtain ⟨d, hd⟩ := finds_exact m c 0 rfl t _ (hY 0); rw [hd]; exact before0_0 m c t d
  have h1 : Y 1 = iblk m c 1 t := by
    obtain ⟨d, hd⟩ := finds_exact m c 1 rfl t _ (hY 1); rw [hd]; exact before0_1 m c t d
  have h2 : Y 2 = iblk m c 2 t := by
    obtain ⟨d, hd⟩ := finds_exact m c 2 rfl t _ (hY 2); rw [hd]; exact before0_2 m c t d
  have h3 : Y 3 = iblk m c 3 t := by
    obtain ⟨d, hd⟩ := finds_exact m c 3 rfl t _ (hY 3); rw [hd]; exact before0_3 m c t d
  have h4 : Y 4 = iblk m c 4 t := by
    obtain ⟨d, hd⟩ := finds_exact m c 4 rfl t _ (hY 4); rw [hd]; exact before0_4 m c t d
  have h5 : Y 5 = iblk m c 5 t := by
    obtain ⟨d, hd⟩ := finds_exact m c 5 rfl t _ (hY 5); rw [hd]; exact before0_5 m c t d
  have h6 : Y 6 = iblk m c 6 t := by
    obtain ⟨d, hd⟩ := finds_exact m c 6 rfl t _ (hY 6); rw [hd]; exact before0_6 m c t d
  have h7 : Y 7 = iblk m c 7 t := by
    obtain ⟨d, hd⟩ := finds_exact m c 7 rfl t _ (hY 7); rw [hd]; exact before0_7 m c t d
  rw [bigSep_W0, bigSep_W0, defs₀_row, h0, h1, h2, h3, h4, h5, h6, h7]
  exact triple_restated (sound_body m c t Y) rfl .rfl fun _ => .rfl

set_option backward.isDefEq.respectTransparency.types false in
/-- The launch: every array ends related to the proof data, every semaphore counter at zero. -/
theorem run_main : θ_run (defs (F := Ideal)) (onTc (τ := τ) (main (F := Ideal))) (s₀ m ρ) (fun r => RDat.FramePost (cfgs 0) (rdat m) (V m) r ∧ r.2.sem = fun _ => 0) :=
  Pipeline.RDat.θ_run_frame cfgs (0 : Fin 1) launch0 defs₀ Variants.none (rdat m) m ρ main
    (hbody := body_obligation m) (hshare := fun c => (dats m 0 c).share_full fun _ => rfl)
    (howed := fun _ _ => rfl) (V := V m) (hmain := hmain m Variants.none) (hA := rdat_A m) (hΦ := fun _ _ => rfl)
    (Q' := _) (hQ' := fun _ h => h)

end Cert.KernelIdeal.Group

end
-- ==== Proof.Arrays.lean ====
/- The kernel's four result arrays after the run, as functions of its arguments, and the frame of the kernel over the reals. -/
module

public import proofs.«01_k».proof.Proof.Data

@[expose] public section

set_option maxRecDepth 16384

noncomputable section

namespace Cert.KernelIdeal.Group

open Idealize.ShloMosaic Idealize.ShloMosaic.TcCoe Idealize.SL.Sem
open Idealize.ShloMosaic.Pipeline (Dat RDat)
open Cert.KernelIdeal Cert.KernelIdeal.Gen

section Global

variable (a0 : Vec Ideal S64x1024x1152 .fp8e4m3) (a1 : Vec Ideal S64x1024 .f32) (a2 : Vec Ideal S64x1024x1152 .bf16)
  (a3 : Vec Ideal S64x1024x1152 .fp8e5m2) (a4 : Vec Ideal S64x1024 .f32) (a5 : Vec Ideal S64x1024x1152 .fp8e5m2) (a6 : Vec Ideal S64x1024 .f32)
  (a7 : Vec Ideal S64x1152 .f32) (s : Fin 64)

/-- A token's scale, its codes, and what it adds to the three gradients of the modulation, from the whole arrays. -/
def gUp (t : Fin 1024) : EReal :=
  tUp (tRatio (fun q => a0 (ix3 s t q)) (fun q => a3 (ix3 s t q)) (fun q => a5 (ix3 s t q)) (fun q => 1 + a7 (ix2 s q)) (a1 (ix2 s t)) (a4 (ix2 s t)) (a6 (ix2 s t)))
def gQ (t : Fin 1024) (q : Fin 1152) : EReal :=
  tQ (fun q => a0 (ix3 s t q)) (fun q => a3 (ix3 s t q)) (fun q => a5 (ix3 s t q)) (fun q => 1 + a7 (ix2 s q)) (a1 (ix2 s t)) (a4 (ix2 s t)) (a6 (ix2 s t)) q
def gMod (a : Fin 3) (t : Fin 1024) (q : Fin 1152) : EReal :=
  ![a5 (ix3 s t q) * a6 (ix2 s t),
    tPr (fun q => a0 (ix3 s t q)) (fun q => a5 (ix3 s t q)) (a1 (ix2 s t)) (a6 (ix2 s t)) q,
    a3 (ix3 s t q) * a4 (ix2 s t) * a2 (ix3 s t q)] a
def gSum (k : Fin 8) (a : Fin 3) (q : Fin 1152) : EReal := ∑ t : Fin 128, gMod a0 a1 a2 a3 a4 a5 a6 s a ⟨128 * k.val + t.val, by omega⟩ q

def B8 : Vec Ideal S64x3x1152 .f32 := fun y => ∑ k : Fin 8, gSum a0 a1 a2 a3 a4 a5 a6 (y 0) k (y 1) (y 2)
def B9 : Vec Ideal S64x8x3x1152 .f32 := fun y => gSum a0 a1 a2 a3 a4 a5 a6 (y 0) (y 1) (y 2) (y 3)
def B10 : Vec Ideal S64x1024x1152 .fp8e5m2 := fun y => gQ a0 a1 a3 a4 a5 a6 a7 (y 0) (y 1) (y 2)
def B11 : Vec Ideal S64x1024 .f32 := fun y => gUp a0 a1 a3 a4 a5 a6 a7 (y 0) (y 1)

end Global

/-- The sequence of a grid point. -/
def seq (t : Fin cfg0.N) : Fin 64 := ⟨t.val, t.isLt.trans_eq N_0⟩

theorem rowAt_val : ∀ t : Fin cfg0.N, (rowAt t).val = t.val % 8 := (by decide +kernel : ∀ t : Fin grid0.N, (rowOf (grid0.coords t)).val = t.val % 8)

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)
theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)
theorem idx9 : ∀ t : Fin cfg0.N, win0_9.index t (0 : Fin 4) = t.val ∧ win0_9.index t (1 : Fin 4) = 0 ∧ win0_9.index t (2 : Fin 4) = 0 ∧ win0_9.index t (3 : Fin 4) = 0 :=
  (by decide +kernel : ∀ t : Fin grid0.N, _)
theorem idx1 : ∀ t : Fin cfg0.N, win0_1.index t (0 : Fin 2) = t.val / 8 ∧ win0_1.index t (1 : Fin 2) = 0 :=
  (by decide +kernel : ∀ t : Fin grid0.N, _)
theorem idx4 : ∀ t : Fin cfg0.N, win0_4.index t (0 : Fin 2) = t.val / 8 ∧ win0_4.index t (1 : Fin 2) = 0 :=
  (by decide +kernel : ∀ t : Fin grid0.N, _)
theorem idx6 : ∀ t : Fin cfg0.N, win0_6.index t (0 : Fin 2) = t.val / 8 ∧ win0_6.index t (1 : Fin 2) = 0 :=
  (by decide +kernel : ∀ t : Fin grid0.N, _)
theorem idx7 : ∀ t : Fin cfg0.N, win0_7.index t (0 : Fin 2) = t.val / 8 ∧ win0_7.index t (1 : Fin 2) = 0 :=
  (by decide +kernel : ∀ t : Fin grid0.N, _)
theorem idx11 : ∀ t : Fin cfg0.N, win0_11.index t (0 : Fin 2) = t.val / 8 ∧ win0_11.index t (1 : Fin 2) = 0 :=
  (by decide +kernel : ∀ t : Fin grid0.N, _)

variable (m : (ℓ : Loc nD τ sig) → Buf (Elt Ideal) ℓ) (ρ : Dev nD → PrngReg)

/-! The blocks of the inputs. -/

theorem blk0_at (c : Dev nD) (t : Fin cfg0.N) (p : Fin 1024) (q : Fin 1152) :
    iblk m c 0 t (ix3 (0 : Fin 1) p q) = m ((c : Thread nD τ).loc main_arg0) (ix3 (seq t) p q) := by
  obtain ⟨e0, e1, e2⟩ := idx0 t
  show V m c main_arg0 (((cfg0.win 0).blk t).view.emb (ix3 (0 : Fin 1) p q)) = V m c main_arg0 _
  refine congrArg _ (funext fun a => Fin.ext ?_)
  match a with
  | ⟨0, _⟩ => show win0_0.index t (0 : Fin 3) * 1 + 1 * 0 = t.val; omega
  | ⟨1, _⟩ => show win0_0.index t (1 : Fin 3) * 1024 + 1 * p.val = p.val; omega
  | ⟨2, _⟩ => show win0_0.index t (2 : Fin 3) * 1152 + 1 * q.val = q.val; omega
theorem blk2_at (c : Dev nD) (t : Fin cfg0.N) (p : Fin 1024) (q : Fin 1152) :
    iblk m c 2 t (ix3 (0 : Fin 1) p q) = m ((c : Thread nD τ).loc main_arg2) (ix3 (seq t) p q) := by
  obtain ⟨e0, e1, e2⟩ := idx2 t
  show V m c main_arg2 (((cfg0.win 2).blk t).view.emb (ix3 (0 : Fin 1) p q)) = V m c main_arg2 _
  refine congrArg _ (funext fun a => Fin.ext ?_)
  match a with
  | ⟨0, _⟩ => show win0_2.index t (0 : Fin 3) * 1 + 1 * 0 = t.val; omega
  | ⟨1, _⟩ => show win0_2.index t (1 : Fin 3) * 1024 + 1 * p.val = p.val; omega
  | ⟨2, _⟩ => show win0_2.index t (2 : Fin 3) * 1152 + 1 * q.val = q.val; omega
theorem blk3_at (c : Dev nD) (t : Fin cfg0.N) (p : Fin 1024) (q : Fin 1152) :
    iblk m c 3 t (ix3 (0 : Fin 1) p q) = m ((c : Thread nD τ).loc main_arg3) (ix3 (seq t) p q) := by
  obtain ⟨e0, e1, e2⟩ := idx3 t
  show V m c main_arg3 (((cfg0.win 3).blk t).view.emb (ix3 (0 : Fin 1) p q)) = V m c main_arg3 _
  refine congrArg _ (funext fun a => Fin.ext ?_)
  match a with
  | ⟨0, _⟩ => show win0_3.index t (0 : Fin 3) * 1 + 1 * 0 = t.val; omega
  | ⟨1, _⟩ => show win0_3.index t (1 : Fin 3) * 1024 + 1 * p.val = p.val; omega
  | ⟨2, _⟩ => show win0_3.index t (2 : Fin 3) * 1152 + 1 * q.val = q.val; omega
theorem blk5_at (c : Dev nD) (t : Fin cfg0.N) (p : Fin 1024) (q : Fin 1152) :
    iblk m c 5 t (ix3 (0 : Fin 1) p q) = m ((c : Thread nD τ).loc main_arg5) (ix3 (seq t) p q) := by
  obtain ⟨e0, e1, e2⟩ := idx5 t
  show V m c main_arg5 (((cfg0.win 5).blk t).view.emb (ix3 (0 : Fin 1) p q)) = V m c main_arg5 _
  refine congrArg _ (funext fun a => Fin.ext ?_)
  match a with
  | ⟨0, _⟩ => show win0_5.index t (0 : Fin 3) * 1 + 1 * 0 = t.val; omega
  | ⟨1, _⟩ => show win0_5.index t (1 : Fin 3) * 1024 + 1 * p.val = p.val; omega
  | ⟨2, _⟩ => show win0_5.index t (2 : Fin 3) * 1152 + 1 * q.val = q.val; omega
theorem blk1_at (c : Dev nD) (t : Fin cfg0.N) (p : Fin 1024) :
    iblk m c 1 t (ix2 (rowAt t) p) = m ((c : Thread nD τ).loc main_arg1) (ix2 (seq t) p) := by
  obtain ⟨e0, e1⟩ := idx1 t
  have er := rowAt_val t
  show V m c main_arg1 (((cfg0.win 1).blk t).view.emb (ix2 (rowAt t) p)) = V m c main_arg1 _
  refine congrArg _ (funext fun a => Fin.ext ?_)
  match a with
  | ⟨0, _⟩ => show win0_1.index t (0 : Fin 2) * 8 + 1 * (rowAt t).val = t.val; omega
  | ⟨1, _⟩ => show win0_1.index t (1 : Fin 2) * 1024 + 1 * p.val = p.val; omega
theorem blk4_at (c : Dev nD) (t : Fin cfg0.N) (p : Fin 1024) :
    iblk m c 4 t (ix2 (rowAt t) p) = m ((c : Thread nD τ).loc main_arg4) (ix2 (seq t) p) := by
  obtain ⟨e0, e1⟩ := idx4 t
  have er := rowAt_val t
  show V m c main_arg4 (((cfg0.win 4).blk t).view.emb (ix2 (rowAt t) p)) = V m c main_arg4 _
  refine congrArg _ (funext fun a => Fin.ext ?_)
  match a with
  | ⟨0, _⟩ => show win0_4.index t (0 : Fin 2) * 8 + 1 * (rowAt t).val = t.val; omega
  | ⟨1, _⟩ => show win0_4.index t (1 : Fin 2) * 1024 + 1 * p.val = p.val; omega
theorem blk6_at (c : Dev nD) (t : Fin cfg0.N) (p : Fin 1024) :
    iblk m c 6 t (ix2 (rowAt t) p) = m ((c : Thread nD τ).loc main_arg6) (ix2 (seq t) p) := by
  obtain ⟨e0, e1⟩ := idx6 t
  have er := rowAt_val t
  show V m c main_arg6 (((cfg0.win 6).blk t).view.emb (ix2 (rowAt t) p)) = V m c main_arg6 _
  refine congrArg _ (funext fun a => Fin.ext ?_)
  match a with
  | ⟨0, _⟩ => show win0_6.index t (0 : Fin 2) * 8 + 1 * (rowAt t).val = t.val; omega
  | ⟨1, _⟩ => show win0_6.index t (1 : Fin 2) * 1024 + 1 * p.val = p.val; omega
theorem blk7_at (c : Dev nD) (t : Fin cfg0.N) (p : Fin 1152) :
    iblk m c 7 t (ix2 (rowAt t) p) = m ((c : Thread nD τ).loc main_arg7) (ix2 (seq t) p) := by
  obtain ⟨e0, e1⟩ := idx7 t
  have er := rowAt_val t
  show V m c main_arg7 (((cfg0.win 7).blk t).view.emb (ix2 (rowAt t) p)) = V m c main_arg7 _
  refine congrArg _ (funext fun a => Fin.ext ?_)
  match a with
  | ⟨0, _⟩ => show win0_7.index t (0 : Fin 2) * 8 + 1 * (rowAt t).val = t.val; omega
  | ⟨1, _⟩ => show win0_7.index t (1 : Fin 2) * 1152 + 1 * p.val = p.val; omega

/-! What a point computes from its blocks is what the whole arrays give for its sequence. -/

theorem vSum_blk (c : Dev nD) (t : Fin cfg0.N) (k : Fin 8) (a : Fin 3) (q : Fin 1152) :
    vSum (rowAt t) (iblk m c 0 t) (iblk m c 1 t) (iblk m c 2 t) (iblk m c 3 t) (iblk m c 4 t) (iblk m c 5 t) (iblk m c 6 t) k a q = gSum (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (seq t) k a q := by
  unfold vSum gSum vMod gMod
  simp only [blk0_at m c t, blk1_at m c t, blk2_at m c t, blk3_at m c t, blk4_at m c t, blk5_at m c t, blk6_at m c t]

theorem vM_blk (c : Dev nD) (t : Fin cfg0.N) : vM (rowAt t) (iblk m c 7 t) = (fun (a7 : Vec Ideal S64x1152 .f32) q => 1 + a7 (ix2 (seq t) q)) (m ((c : Thread nD τ).loc main_arg7)) := by
  funext q
  unfold vM
  rw [blk7_at m c t]

theorem vQ_blk (c : Dev nD) (t : Fin cfg0.N) (p : Fin 1024) (q : Fin 1152) :
    vQ (rowAt t) (iblk m c 0 t) (iblk m c 1 t) (iblk m c 3 t) (iblk m c 4 t) (iblk m c 5 t) (iblk m c 6 t) (vM (rowAt t) (iblk m c 7 t)) p q = gQ (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (seq t) p q := by
  unfold vQ gQ
  rw [vM_blk m c t]
  simp only [blk0_at m c t, blk1_at m c t, blk3_at m c t, blk4_at m c t, blk5_at m c t, blk6_at m c t]

theorem vUp_blk (c : Dev nD) (t : Fin cfg0.N) (p : Fin 1024) :
    vUp (rowAt t) (iblk m c 0 t) (iblk m c 1 t) (iblk m c 3 t) (iblk m c 4 t) (iblk m c 5 t) (iblk m c 6 t) (vM (rowAt t) (iblk m c 7 t)) p = gUp (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (seq t) p := by
  unfold vUp gUp
  rw [vM_blk m c t]
  simp only [blk0_at m c t, blk1_at m c t, blk3_at m c t, blk4_at m c t, blk5_at m c t, blk6_at m c t]

theorem oMod_at (b : Fin 8) (x0 : Vec Ideal S1x1024x1152 .fp8e4m3) (x1 : Vec Ideal S8x1024 .f32) (x2 : Vec Ideal S1x1024x1152 .bf16)
    (x3 : Vec Ideal S1x1024x1152 .fp8e5m2) (x4 : Vec Ideal S8x1024 .f32) (x5 : Vec Ideal S1x1024x1152 .fp8e5m2) (x6 : Vec Ideal S8x1024 .f32)
    (a : Fin 3) (q : Fin 1152) :
    oMod b x0 x1 x2 x3 x4 x5 x6 (ix3 0 a q) = ∑ k : Fin 8, vSum b x0 x1 x2 x3 x4 x5 x6 k a q := by
  unfold oMod
  have h : ∀ D : Vec Ideal S1x8x3x1152 .f32, k0_pay4 (F := Ideal) D (ix3 0 a q) = ∑ k : Fin 8, D (ix4 0 k a q) := fun D => by
    pointwise [k0_pay4]
  exact h _

/-! The three results written whole at each point. -/

theorem emb8 (t : Fin cfg0.N) (j1 : Fin 3) (j2 : Fin 1152) :
    ((cfg0.win 8).blk t).view.emb (ix3 (0 : Fin 1) j1 j2) = ix3 (seq t) j1 j2 := by
  obtain ⟨e0, e1, e2⟩ := idx8 t
  funext a
  refine Fin.ext ?_
  match a with
  | ⟨0, _⟩ => show win0_8.index t (0 : Fin 3) * 1 + 1 * 0 = t.val; omega
  | ⟨1, _⟩ => show win0_8.index t (1 : Fin 3) * 3 + 1 * j1.val = j1.val; omega
  | ⟨2, _⟩ => show win0_8.index t (2 : Fin 3) * 1152 + 1 * j2.val = j2.val; omega

theorem flushed8 (c : Dev nD) (t : Fin cfg0.N) :
    (dats m 0 c).flushed 8 t = ((cfg0.win 8).blk t).view.read (Elt Ideal) (B8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg0.win 8).cut (grid0.coords t) ((dats m 0 c).after 8 t) = _
  rw [after0_8]
  funext j
  idx_vars j
  obtain rfl : j0 = 0 := Subsingleton.elim _ _
  show _ = B8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb (ix3 (0 : Fin 1) j1 j2))
  rw [emb8]
  exact (oMod_at _ _ _ _ _ _ _ _ j1 j2).trans (Finset.sum_congr rfl fun k _ => vSum_blk m c t k j1 j2)

theorem covered8 (i : S64x3x1152.Idx) : ∃ t : Fin cfg0.N, (cfg0.win 8).flush t = true ∧ i ∈ ((cfg0.win 8).blk t).view.set := by
  idx_vars i
  refine ⟨⟨i0.val, i0.isLt.trans_eq N_0.symm⟩, flush0_8 _, ?_⟩
  have h := ((cfg0.win 8).blk ⟨i0.val, i0.isLt.trans_eq N_0.symm⟩).view.emb_mem_set (ix3 (0 : Fin 1) i1 i2)
  rwa [emb8] at h

theorem array8 (c : Dev nD) (G) (h : (rdat m c).ArrAt 8 cfg0.N G) : G = B8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((Dat.toR_arrAt_iff _ 8 cfg0.N G).1 ((RDat.override_arrAt _ (show scalesRel m c 8 = none from rfl) cfg0.N G).1 h)).trans
    ((dats m 0 c).arrAt_eq_of_cover 8 (B8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed8 m c t) covered8)

theorem emb9 (t : Fin cfg0.N) (j1 : Fin 8) (j2 : Fin 3) (j3 : Fin 1152) :
    ((cfg0.win 9).blk t).view.emb (ix4 (0 : Fin 1) j1 j2 j3) = ix4 (seq t) j1 j2 j3 := by
  obtain ⟨e0, e1, e2, e3⟩ := idx9 t
  funext a
  refine Fin.ext ?_
  match a with
  | ⟨0, _⟩ => show win0_9.index t (0 : Fin 4) * 1 + 1 * 0 = t.val; omega
  | ⟨1, _⟩ => show win0_9.index t (1 : Fin 4) * 8 + 1 * j1.val = j1.val; omega
  | ⟨2, _⟩ => show win0_9.index t (2 : Fin 4) * 3 + 1 * j2.val = j2.val; omega
  | ⟨3, _⟩ => show win0_9.index t (3 : Fin 4) * 1152 + 1 * j3.val = j3.val; omega

theorem flushed9 (c : Dev nD) (t : Fin cfg0.N) :
    (dats m 0 c).flushed 9 t = ((cfg0.win 9).blk t).view.read (Elt Ideal) (B9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg0.win 9).cut (grid0.coords t) ((dats m 0 c).after 9 t) = _
  rw [after0_9]
  funext j
  idx_vars j
  obtain rfl : j0 = 0 := Subsingleton.elim _ _
  show _ = B9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb (ix4 (0 : Fin 1) j1 j2 j3))
  rw [emb9]
  exact vSum_blk m c t j1 j2 j3

theorem covered9 (i : S64x8x3x1152.Idx) : ∃ t : Fin cfg0.N, (cfg0.win 9).flush t = true ∧ i ∈ ((cfg0.win 9).blk t).view.set := by
  idx_vars i
  refine ⟨⟨i0.val, i0.isLt.trans_eq N_0.symm⟩, flush0_9 _, ?_⟩
  have h := ((cfg0.win 9).blk ⟨i0.val, i0.isLt.trans_eq N_0.symm⟩).view.emb_mem_set (ix4 (0 : Fin 1) i1 i2 i3)
  rwa [emb9] at h

theorem array9 (c : Dev nD) (G) (h : (rdat m c).ArrAt 9 cfg0.N G) : G = B9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((Dat.toR_arrAt_iff _ 9 cfg0.N G).1 ((RDat.override_arrAt _ (show scalesRel m c 9 = none from rfl) cfg0.N G).1 h)).trans
    ((dats m 0 c).arrAt_eq_of_cover 9 (B9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed9 m c t) covered9)

theorem emb10 (t : Fin cfg0.N) (j1 : Fin 1024) (j2 : Fin 1152) :
    ((cfg0.win 10).blk t).view.emb (ix3 (0 : Fin 1) j1 j2) = ix3 (seq t) j1 j2 := by
  obtain ⟨e0, e1, e2⟩ := idx10 t
  funext a
  refine Fin.ext ?_
  match a with
  | ⟨0, _⟩ => show win0_10.index t (0 : Fin 3) * 1 + 1 * 0 = t.val; omega
  | ⟨1, _⟩ => show win0_10.index t (1 : Fin 3) * 1024 + 1 * j1.val = j1.val; omega
  | ⟨2, _⟩ => show win0_10.index t (2 : Fin 3) * 1152 + 1 * j2.val = j2.val; omega

theorem flushed10 (c : Dev nD) (t : Fin cfg0.N) :
    (dats m 0 c).flushed 10 t = ((cfg0.win 10).blk t).view.read (Elt Ideal) (B10 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  show (cfg0.win 10).cut (grid0.coords t) ((dats m 0 c).after 10 t) = _
  rw [after0_10]
  funext j
  idx_vars j
  obtain rfl : j0 = 0 := Subsingleton.elim _ _
  show _ = B10 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 10).blk t).view.emb (ix3 (0 : Fin 1) j1 j2))
  rw [emb10]
  exact vQ_blk m c t j1 j2

theorem covered10 (i : S64x1024x1152.Idx) : ∃ t : Fin cfg0.N, (cfg0.win 10).flush t = true ∧ i ∈ ((cfg0.win 10).blk t).view.set := by
  idx_vars i
  refine ⟨⟨i0.val, i0.isLt.trans_eq N_0.symm⟩, flush0_10 _, ?_⟩
  have h := ((cfg0.win 10).blk ⟨i0.val, i0.isLt.trans_eq N_0.symm⟩).view.emb_mem_set (ix3 (0 : Fin 1) i1 i2)
  rwa [emb10] at h

theorem array10 (c : Dev nD) (G) (h : (rdat m c).ArrAt 10 cfg0.N G) : G = B10 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  ((Dat.toR_arrAt_iff _ 10 cfg0.N G).1 ((RDat.override_arrAt _ (show scalesRel m c 10 = none from rfl) cfg0.N G).1 h)).trans
    ((dats m 0 c).arrAt_eq_of_cover 10 (B10 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed10 m c t) covered10)

/-! The scales: a block of eight rows, one row written per point, written back after the eighth. -/

abbrev upOf (c : Dev nD) (s : Fin 64) (p : Fin 1024) : EReal := gUp (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) s p

theorem leftScales_at (c : Dev nD) (t : Fin cfg0.N) (Y : Vec Ideal S8x1024 .f32) (r : Fin 8) (p : Fin 1024) :
    leftScales m c t Y (ix2 r p) = if r = rowAt t then upOf m c (seq t) p else Y (ix2 r p) := by
  show (if r = rowAt t then vUp (rowAt t) (iblk m c 0 t) (iblk m c 1 t) (iblk m c 3 t) (iblk m c 4 t) (iblk m c 5 t) (iblk m c 6 t) (vM (rowAt t) (iblk m c 7 t)) p else Y (ix2 r p)) = _
  rw [vUp_blk m c t p]

/-- The rows that hold their scales: those of the points before, in the same block. -/
def Upto (c : Dev nD) (b n : Nat) (X : Vec Ideal S8x1024 .f32) : Prop :=
  ∀ (s : Fin 64) (r : Fin 8) (p : Fin 1024), s.val = 8 * b + r.val → r.val < n → X (ix2 r p) = upOf m c s p

theorem left_upto (c : Dev nD) (t : Fin cfg0.N) (X Y : Vec Ideal S8x1024 .f32) (hY : Upto m c (t.val / 8) (t.val % 8) Y)
    (h : X = leftScales m c t Y) : Upto m c (t.val / 8) (t.val % 8 + 1) X := by
  intro s r p hs hr
  have er := rowAt_val t
  rw [h, leftScales_at]
  by_cases hrow : r = rowAt t
  · rw [if_pos hrow]
    have : seq t = s := Fin.ext (by show t.val = s.val; rw [hs, hrow, er]; omega)
    rw [this]
  · rw [if_neg hrow]
    refine hY s r p hs ?_
    have : r.val ≠ (rowAt t).val := fun h => hrow (Fin.ext h)
    omega

theorem finds_upto (c : Dev nD) : ∀ (n : Nat) (h : n < cfg0.N) (X : Vec Ideal S8x1024 .f32), (rdat m c).Finds 11 ⟨n, h⟩ X → Upto m c (n / 8) (n % 8) X := by
  intro n
  induction n with
  | zero => intro h X _ s r p _ hr; omega
  | succ n ih =>
    intro h X hX
    by_cases h8 : (n + 1) % 8 = 0
    · intro s r p _ hr; omega
    rcases ((rdat m c).finds_of_pos (t := ⟨n + 1, h⟩) (Pipeline.Window.fetch_out (cfg0.win 11) rfl _) (Nat.succ_ne_zero n) X).1 hX with hf | hl
    · have := (flush0_11 ⟨n, by omega⟩).1 hf
      simp only at this
      omega
    · obtain ⟨Y, hY, hXY⟩ := hl
      have := left_upto m c ⟨n, by omega⟩ X Y (ih (by omega) Y hY) ((after_scales m c _ Y X).1 hXY)
      simp only at this
      rw [show (n + 1) / 8 = n / 8 by omega, show (n + 1) % 8 = n % 8 + 1 by omega]
      exact this

theorem leaves_upto (c : Dev nD) (t : Fin cfg0.N) (X : Vec Ideal S8x1024 .f32) (hX : (rdat m c).Leaves 11 t X) :
    Upto m c (t.val / 8) (t.val % 8 + 1) X := by
  obtain ⟨Y, hY, hXY⟩ := hX
  exact left_upto m c t X Y (finds_upto m c t.val t.isLt Y hY) ((after_scales m c _ Y X).1 hXY)

theorem emb11 (t : Fin cfg0.N) (r : Fin 8) (p : Fin 1024) (s : Fin 64) (hs : s.val = 8 * (t.val / 8) + r.val) :
    ((cfg0.win 11).blk t).view.emb (ix2 r p) = ix2 s p := by
  obtain ⟨e0, e1⟩ := idx11 t
  funext a
  refine Fin.ext ?_
  match a with
  | ⟨0, _⟩ => show win0_11.index t (0 : Fin 2) * 8 + 1 * r.val = s.val; omega
  | ⟨1, _⟩ => show win0_11.index t (1 : Fin 2) * 1024 + 1 * p.val = p.val; omega

theorem arr_upto (c : Dev nD) : ∀ (n : Nat) (hn : n ≤ cfg0.N) (G : Vec Ideal S64x1024 .f32), (rdat m c).ArrAt 11 n G →
    ∀ (s : Fin 64) (p : Fin 1024), s.val < 8 * (n / 8) → G (ix2 s p) = upOf m c s p := by
  intro n
  induction n with
  | zero => intro _ G _ s p hs; omega
  | succ n ih =>
    intro hn G hG s p hs
    have hstep := hG
    rw [show n + 1 = (⟨n, hn⟩ : Fin cfg0.N).val + 1 from rfl, RDat.ArrAt_succ] at hstep
    by_cases h7 : n % 8 = 7
    · rw [if_pos ((flush0_11 ⟨n, hn⟩).2 h7)] at hstep
      obtain ⟨G₀, X, hG₀, hX, e⟩ := hstep
      by_cases hb : s.val / 8 = n / 8
      · have hu := leaves_upto m c ⟨n, hn⟩ X hX s ⟨s.val % 8, by omega⟩ p (by show s.val = 8 * (n / 8) + s.val % 8; omega) (by show s.val % 8 < n % 8 + 1; omega)
        rw [← hu, e, ← emb11 ⟨n, hn⟩ ⟨s.val % 8, by omega⟩ p s (by show s.val = 8 * (n / 8) + s.val % 8; omega)]
        exact View.write_emb_of_mem _ _ (Finset.mem_univ _)
      · rw [e]
        refine (View.write_of_not_mem _ _ _ ?_).trans (ih (by omega) G₀ hG₀ s p (by omega))
        intro hmem
        obtain ⟨j, -, hj⟩ := Finset.mem_map.1 hmem
        idx_vars j
        rw [emb11 ⟨n, hn⟩ j0 j1 ⟨8 * (n / 8) + j0.val, by have : cfg0.N = 64 := N_0; omega⟩ rfl] at hj
        have := congrArg Fin.val (congrFun hj (0 : Fin 2))
        have h0 : 8 * (n / 8) + j0.val = s.val := this
        omega
    · rw [if_neg fun h => h7 ((flush0_11 ⟨n, hn⟩).1 h)] at hstep
      exact ih (by omega) G hstep s p (by omega)

theorem array11 (c : Dev nD) (G) (h : (rdat m c).ArrAt 11 cfg0.N G) : G = B11 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  funext y
  idx_vars y
  exact arr_upto m c cfg0.N le_rfl G h y0 y1 (by have : cfg0.N = 64 := N_0; omega)

/-- The frame of the kernel over the reals. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => ⟨(RDat.FramePost.arr_in h.1 c 0 rfl).trans ((rdat_A m c 0).trans (V_main_arg0 m c)),
      (RDat.FramePost.arr_in h.1 c 1 rfl).trans ((rdat_A m c 1).trans (V_main_arg1 m c)),
      (RDat.FramePost.arr_in h.1 c 2 rfl).trans ((rdat_A m c 2).trans (V_main_arg2 m c)),
      (RDat.FramePost.arr_in h.1 c 3 rfl).trans ((rdat_A m c 3).trans (V_main_arg3 m c)),
      (RDat.FramePost.arr_in h.1 c 4 rfl).trans ((rdat_A m c 4).trans (V_main_arg4 m c)),
      (RDat.FramePost.arr_in h.1 c 5 rfl).trans ((rdat_A m c 5).trans (V_main_arg5 m c)),
      (RDat.FramePost.arr_in h.1 c 6 rfl).trans ((rdat_A m c 6).trans (V_main_arg6 m c)),
      (RDat.FramePost.arr_in h.1 c 7 rfl).trans ((rdat_A m c 7).trans (V_main_arg7 m c))⟩, h.2⟩) (run_main m ρ)

/-- The results, and the arguments unchanged. -/
theorem values : θ_run (defs (F := Ideal)) (onTc (τ := τ) (main (F := Ideal))) ⟨m, fun _ => 0, ρ⟩ (fun r => ∀ c : Dev nD,
      r.2.mem ((c.tc : Thread nD τ).loc main_v0_0) = B8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v0_1) = B9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v0_2) = B10 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v0_3) = B11 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨array8 m c _ ((h.1 c).1 8), array9 m c _ ((h.1 c).1 9), array10 m c _ ((h.1 c).1 10), array11 m c _ ((h.1 c).1 11),
      (RDat.FramePost.arr_in h.1 c 0 rfl).trans ((rdat_A m c 0).trans (V_main_arg0 m c)),
      (RDat.FramePost.arr_in h.1 c 1 rfl).trans ((rdat_A m c 1).trans (V_main_arg1 m c)),
      (RDat.FramePost.arr_in h.1 c 2 rfl).trans ((rdat_A m c 2).trans (V_main_arg2 m c)),
      (RDat.FramePost.arr_in h.1 c 3 rfl).trans ((rdat_A m c 3).trans (V_main_arg3 m c)),
      (RDat.FramePost.arr_in h.1 c 4 rfl).trans ((rdat_A m c 4).trans (V_main_arg4 m c)),
      (RDat.FramePost.arr_in h.1 c 5 rfl).trans ((rdat_A m c 5).trans (V_main_arg5 m c)),
      (RDat.FramePost.arr_in h.1 c 6 rfl).trans ((rdat_A m c 6).trans (V_main_arg6 m c)),
      (RDat.FramePost.arr_in h.1 c 7 rfl).trans ((rdat_A m c 7).trans (V_main_arg7 m c))⟩) (run_main m ρ)

end Cert.KernelIdeal.Group

end
-- ==== Proof.RefRun.lean ====
/- The reference's run, read: each of its four arrays is the body's result of the whole argument arrays (one grid point, every
   window's block its whole array), the arguments unchanged. -/
module

public import proofs.«01_k».proof.Proof.Gen.ReferenceIdeal.Frame
public import Idealize.ShloMosaic.Lib.Pipeline.Value

@[expose] public section

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem post8 (r : PUnit × MemSt nD τ sig (Elt F)) (h : Pipeline.FramePost cfgs (dats m) 0 (V m) r) (c : Dev nD) :
    r.2.mem ((c : Thread nD τ).loc main_v0_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_2) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_3) = (dats m 0 c).arrAt 11 cfg0.N :=
  (h c).1 11

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S64x1024x1152.Idx) : ((cfg0.win 0).blk t).view.emb j = j := by
  obtain ⟨e0, e1, e2⟩ := idx_zero0 t
  funext a; apply Fin.ext
  match a with
  | ⟨0, _⟩ => show win0_0.index t (0 : Fin 3) * 64 + 1 * (j 0).val = (j 0).val; omega
  | ⟨1, _⟩ => show win0_0.index t (1 : Fin 3) * 1024 + 1 * (j 1).val = (j 1).val; omega
  | ⟨2, _⟩ => show win0_0.index t (2 : Fin 3) * 1152 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S64x1024.Idx) : ((cfg0.win 1).blk t).view.emb j = j := by
  obtain ⟨e0, e1⟩ := idx_zero1 t
  funext a; apply Fin.ext
  match a with
  | ⟨0, _⟩ => show win0_1.index t (0 : Fin 2) * 64 + 1 * (j 0).val = (j 0).val; omega
  | ⟨1, _⟩ => show win0_1.index t (1 : Fin 2) * 1024 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S64x1024x1152.Idx) : ((cfg0.win 2).blk t).view.emb j = j := by
  obtain ⟨e0, e1, e2⟩ := idx_zero2 t
  funext a; apply Fin.ext
  match a with
  | ⟨0, _⟩ => show win0_2.index t (0 : Fin 3) * 64 + 1 * (j 0).val = (j 0).val; omega
  | ⟨1, _⟩ => show win0_2.index t (1 : Fin 3) * 1024 + 1 * (j 1).val = (j 1).val; omega
  | ⟨2, _⟩ => show win0_2.index t (2 : Fin 3) * 1152 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S64x1024x1152.Idx) : ((cfg0.win 3).blk t).view.emb j = j := by
  obtain ⟨e0, e1, e2⟩ := idx_zero3 t
  funext a; apply Fin.ext
  match a with
  | ⟨0, _⟩ => show win0_3.index t (0 : Fin 3) * 64 + 1 * (j 0).val = (j 0).val; omega
  | ⟨1, _⟩ => show win0_3.index t (1 : Fin 3) * 1024 + 1 * (j 1).val = (j 1).val; omega
  | ⟨2, _⟩ => show win0_3.index t (2 : Fin 3) * 1152 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S64x1024.Idx) : ((cfg0.win 4).blk t).view.emb j = j := by
  obtain ⟨e0, e1⟩ := idx_zero4 t
  funext a; apply Fin.ext
  match a with
  | ⟨0, _⟩ => show win0_4.index t (0 : Fin 2) * 64 + 1 * (j 0).val = (j 0).val; omega
  | ⟨1, _⟩ => show win0_4.index t (1 : Fin 2) * 1024 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S64x1024x1152.Idx) : ((cfg0.win 5).blk t).view.emb j = j := by
  obtain ⟨e0, e1, e2⟩ := idx_zero5 t
  funext a; apply Fin.ext
  match a with
  | ⟨0, _⟩ => show win0_5.index t (0 : Fin 3) * 64 + 1 * (j 0).val = (j 0).val; omega
  | ⟨1, _⟩ => show win0_5.index t (1 : Fin 3) * 1024 + 1 * (j 1).val = (j 1).val; omega
  | ⟨2, _⟩ => show win0_5.index t (2 : Fin 3) * 1152 + 1 * (j 2).val = (j 2).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S64x1024.Idx) : ((cfg0.win 6).blk t).view.emb j = j := by
  obtain ⟨e0, e1⟩ := idx_zero6 t
  funext a; apply Fin.ext
  match a with
  | ⟨0, _⟩ => show win0_6.index t (0 : Fin 2) * 64 + 1 * (j 0).val = (j 0).val; omega
  | ⟨1, _⟩ => show win0_6.index t (1 : Fin 2) * 1024 + 1 * (j 1).val = (j 1).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S64x1152.Idx) : ((cfg0.win 7).blk t).view.emb j = j := by
  obtain ⟨e0, e1⟩ := idx_zero7 t
  funext a; apply Fin.ext
  match a with
  | ⟨0, _⟩ => show win0_7.index t (0 : Fin 2) * 64 + 1 * (j 0).val = (j 0).val; omega
  | ⟨1, _⟩ => show win0_7.index t (1 : Fin 2) * 1152 + 1 * (j 1).val = (j 1).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S64x3x1152.Idx) : ((cfg0.win 8).blk t).view.emb j = j := by
  obtain ⟨e0, e1, e2⟩ := idx_zero8 t
  funext a; apply Fin.ext
  match a with
  | ⟨0, _⟩ => show win0_8.index t (0 : Fin 3) * 64 + 1 * (j 0).val = (j 0).val; omega
  | ⟨1, _⟩ => show win0_8.index t (1 : Fin 3) * 3 + 1 * (j 1).val = (j 1).val; omega
  | ⟨2, _⟩ => show win0_8.index t (2 : Fin 3) * 1152 + 1 * (j 2).val = (j 2).val; omega

theorem hz9 : (![0, 0, 0, 0] : Fin 4 → Nat) = fun _ => 0 := funext fun a => by fin_cases a <;> rfl

/-- Window 9's block index at the one point is zero on every axis. -/
theorem idx_zero9 : ∀ t : Fin cfg0.N, win0_9.index t (0 : Fin 4) = 0 ∧ win0_9.index t (1 : Fin 4) = 0 ∧ win0_9.index t (2 : Fin 4) = 0 ∧ win0_9.index t (3 : Fin 4) = 0 :=
  (by decide +kernel : ∀ t : Fin grid0.N, _)

/-- An index of window 9's block is the same index of its array. -/
theorem emb9 (t : Fin cfg0.N) (j : S64x8x3x1152.Idx) : ((cfg0.win 9).blk t).view.emb j = j := by
  obtain ⟨e0, e1, e2, e3⟩ := idx_zero9 t
  funext a; apply Fin.ext
  match a with
  | ⟨0, _⟩ => show win0_9.index t (0 : Fin 4) * 64 + 1 * (j 0).val = (j 0).val; omega
  | ⟨1, _⟩ => show win0_9.index t (1 : Fin 4) * 8 + 1 * (j 1).val = (j 1).val; omega
  | ⟨2, _⟩ => show win0_9.index t (2 : Fin 4) * 3 + 1 * (j 2).val = (j 2).val; omega
  | ⟨3, _⟩ => show win0_9.index t (3 : Fin 4) * 1152 + 1 * (j 3).val = (j 3).val; omega

theorem hz10 : (![0, 0, 0] : Fin 3 → Nat) = fun _ => 0 := funext fun a => by fin_cases a <;> rfl

/-- Window 10's block index at the one point is zero on every axis. -/
theorem idx_zero10 : ∀ t : Fin cfg0.N, win0_10.index t (0 : Fin 3) = 0 ∧ win0_10.index t (1 : Fin 3) = 0 ∧ win0_10.index t (2 : Fin 3) = 0 :=
  (by decide +kernel : ∀ t : Fin grid0.N, _)

/-- An index of window 10's block is the same index of its array. -/
theorem emb10 (t : Fin cfg0.N) (j : S64x1024x1152.Idx) : ((cfg0.win 10).blk t).view.emb j = j := by
  obtain ⟨e0, e1, e2⟩ := idx_zero10 t
  funext a; apply Fin.ext
  match a with
  | ⟨0, _⟩ => show win0_10.index t (0 : Fin 3) * 64 + 1 * (j 0).val = (j 0).val; omega
  | ⟨1, _⟩ => show win0_10.index t (1 : Fin 3) * 1024 + 1 * (j 1).val = (j 1).val; omega
  | ⟨2, _⟩ => show win0_10.index t (2 : Fin 3) * 1152 + 1 * (j 2).val = (j 2).val; omega

theorem hz11 : (![0, 0] : Fin 2 → Nat) = fun _ => 0 := funext fun a => by fin_cases a <;> rfl

/-- Window 11's block index at the one point is zero on every axis. -/
theorem idx_zero11 : ∀ t : Fin cfg0.N, win0_11.index t (0 : Fin 2) = 0 ∧ win0_11.index t (1 : Fin 2) = 0 :=
  (by decide +kernel : ∀ t : Fin grid0.N, _)

/-- An index of window 11's block is the same index of its array. -/
theorem emb11 (t : Fin cfg0.N) (j : S64x1024.Idx) : ((cfg0.win 11).blk t).view.emb j = j := by
  obtain ⟨e0, e1⟩ := idx_zero11 t
  funext a; apply Fin.ext
  match a with
  | ⟨0, _⟩ => show win0_11.index t (0 : Fin 2) * 64 + 1 * (j 0).val = (j 0).val; omega
  | ⟨1, _⟩ => show win0_11.index t (1 : Fin 2) * 1024 + 1 * (j 1).val = (j 1).val; omega

/-! ### Output window 8: the array after the run -/

/-- What the window's array ends holding: `out0_8` applied to the argument arrays in place of the input blocks. -/
abbrev G8 (a0 : Vec F S64x1024x1152 .fp8e4m3) (a1 : Vec F S64x1024 .f32) (a2 : Vec F S64x1024x1152 .bf16) (a3 : Vec F S64x1024x1152 .fp8e5m2) (a4 : Vec F S64x1024 .f32) (a5 : Vec F S64x1024x1152 .fp8e5m2) (a6 : Vec F S64x1024 .f32) (a7 : Vec F S64x1152 .f32) : Vec F S64x3x1152 .f32 :=
  k0_pay11 (k0_pay26 a0 a1 a2 a3 a4 a5 a6 a7) (k0_pay30 a0 a1 a2 a3 a4 a5 a6 a7) (k0_pay31 a0 a1 a2 a3 a4 a5 a6 a7) a2

/-- A load of the whole of a block reads the block, and the one store through the whole rectangle leaves its payload. -/
theorem out8_eq (a0 : Vec F S64x1024x1152 .fp8e4m3) (a1 : Vec F S64x1024 .f32) (a2 : Vec F S64x1024x1152 .bf16) (a3 : Vec F S64x1024x1152 .fp8e5m2) (a4 : Vec F S64x1024 .f32) (a5 : Vec F S64x1024x1152 .fp8e5m2) (a6 : Vec F S64x1024 .f32) (a7 : Vec F S64x1152 .f32) : out0_8 (F := F) a0 a1 a2 a3 a4 a5 a6 a7 = G8 a0 a1 a2 a3 a4 a5 a6 a7 := by
  unfold out0_8
  rw [View.canon_unit_zero hz8, View.ld_unit_zero (S := S64x1024x1152) hz2 _ a2]

/-- Cutting the point's block out of `X` and reading `X` through the block's view give the same. -/
theorem cut8_eq (t : Fin cfg0.N) (X : Vec F S64x3x1152 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5) (V m c main_arg6) (V m c main_arg7)) := by
  show (cfg0.win 8).cut (grid0.coords t) ((dats m 0 c).after 8 t) = _
  rw [after0_8, out8_eq, iblk0_eq, iblk1_eq, iblk2_eq, iblk3_eq, iblk4_eq, iblk5_eq, iblk6_eq, iblk7_eq]
  exact cut8_eq t _

/-- Every index of the array is in the point's block. -/
theorem covered8 (i : S64x3x1152.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 8 (G8 (V m c main_arg0) (V m c main_arg1) (V m c main_arg2) (V m c main_arg3) (V m c main_arg4) (V m c main_arg5) (V m c main_arg6) (V m c main_arg7)) (fun t _ => flushed8_eq m c t) covered8).trans (by rw [V_main_arg0, V_main_arg1, V_main_arg2, V_main_arg3, V_main_arg4, V_main_arg5, V_main_arg6, V_main_arg7])

/-! ### Output window 9: the array after the run -/

/-- What the window's array ends holding: `out0_9` applied to the argument arrays in place of the input blocks. -/
abbrev G9 (a0 : Vec F S64x1024x1152 .fp8e4m3) (a1 : Vec F S64x1024 .f32) (a2 : Vec F S64x1024x1152 .bf16) (a3 : Vec F S64x1024x1152 .fp8e5m2) (a4 : Vec F S64x1024 .f32) (a5 : Vec F S64x1024x1152 .fp8e5m2) (a6 : Vec F S64x1024 .f32) (a7 : Vec F S64x1152 .f32) : Vec F S64x8x3x1152 .f32 :=
  k0_pay10 (k0_pay26 a0 a1 a2 a3 a4 a5 a6 a7) (k0_pay30 a0 a1 a2 a3 a4 a5 a6 a7) (k0_pay31 a0 a1 a2 a3 a4 a5 a6 a7) a2

/-- A load of the whole of a block reads the block, and the one store through the whole rectangle leaves its payload. -/
theorem out9_eq (a0 : Vec F S64x1024x1152 .fp8e4m3) (a1 : Vec F S64x1024 .f32) (a2 : Vec F S64x1024x1152 .bf16) (a3 : Vec F S64x1024x1152 .fp8e5m2) (a4 : Vec F S64x1024 .f32) (a5 : Vec F S64x1024x1152 .fp8e5m2) (a6 : Vec F S64x1024 .f32) (a7 : Vec F S64x1152 .f32) : out0_9 (F := F) a0 a1 a2 a3 a4 a5 a6 a7 = G9 a0 a1 a2 a3 a4 a5 a6 a7 := by
  unfold out0_9
  rw [View.canon_unit_zero hz9, View.ld_unit_zero (S := S64x1024x1152) hz2 _ a2]

/-- Cutting the point's block out of `X` and reading `X` through the block's view give the same. -/
theorem cut9_eq (t : Fin cfg0.N) (X : Vec F S64x8x3x1152 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6) (V m c main_arg7)) := by
  show (cfg0.win 9).cut (grid0.coords t) ((dats m 0 c).after 9 t) = _
  rw [after0_9, out9_eq, iblk0_eq, iblk1_eq, iblk2_eq, iblk3_eq, iblk4_eq, iblk5_eq, iblk6_eq, iblk7_eq]
  exact cut9_eq t _

/-- Every index of the array is in the point's block. -/
theorem covered9 (i : S64x8x3x1152.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 9 (G9 (V m c main_arg0) (V m c main_arg1) (V m c main_arg2) (V m c main_arg3) (V m c main_arg4) (V m c main_arg5) (V m c main_arg6) (V m c main_arg7)) (fun t _ => flushed9_eq m c t) covered9).trans (by rw [V_main_arg0, V_main_arg1, V_main_arg2, V_main_arg3, V_main_arg4, V_main_arg5, V_main_arg6, V_main_arg7])

/-! ### Output window 10: the array after the run -/

/-- What the window's array ends holding: `out0_10` applied to the argument arrays in place of the input blocks. -/
abbrev G10 (a0 : Vec F S64x1024x1152 .fp8e4m3) (a1 : Vec F S64x1024 .f32) (a2 : Vec F S64x1024x1152 .bf16) (a3 : Vec F S64x1024x1152 .fp8e5m2) (a4 : Vec F S64x1024 .f32) (a5 : Vec F S64x1024x1152 .fp8e5m2) (a6 : Vec F S64x1024 .f32) (a7 : Vec F S64x1152 .f32) : Vec F S64x1024x1152 .fp8e5m2 :=
  k0_pay24 (k0_pay26 a0 a1 a2 a3 a4 a5 a6 a7) (k0_pay32 a0 a1 a2 a3 a4 a5 a6 a7) (k0_pay33 a0 a1 a2 a3 a4 a5 a6 a7) (k0_pay34 a0 a1 a2 a3 a4 a5 a6 a7) (k0_pay35 a0 a1 a2 a3 a4 a5 a6 a7) (k0_pay36 a0 a1 a2 a3 a4 a5 a6 a7)

/-- The one store through the whole rectangle leaves its payload. -/
theorem out10_eq (a0 : Vec F S64x1024x1152 .fp8e4m3) (a1 : Vec F S64x1024 .f32) (a2 : Vec F S64x1024x1152 .bf16) (a3 : Vec F S64x1024x1152 .fp8e5m2) (a4 : Vec F S64x1024 .f32) (a5 : Vec F S64x1024x1152 .fp8e5m2) (a6 : Vec F S64x1024 .f32) (a7 : Vec F S64x1152 .f32) : out0_10 (F := F) a0 a1 a2 a3 a4 a5 a6 a7 = G10 a0 a1 a2 a3 a4 a5 a6 a7 := by
  unfold out0_10
  rw [View.canon_unit_zero hz10]

/-- Cutting the point's block out of `X` and reading `X` through the block's view give the same. -/
theorem cut10_eq (t : Fin cfg0.N) (X : Vec F S64x1024x1152 .fp8e5m2) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6) (V m c main_arg7)) := by
  show (cfg0.win 10).cut (grid0.coords t) ((dats m 0 c).after 10 t) = _
  rw [after0_10, out10_eq, iblk0_eq, iblk1_eq, iblk2_eq, iblk3_eq, iblk4_eq, iblk5_eq, iblk6_eq, iblk7_eq]
  exact cut10_eq t _

/-- Every index of the array is in the point's block. -/
theorem covered10 (i : S64x1024x1152.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 10 (G10 (V m c main_arg0) (V m c main_arg1) (V m c main_arg2) (V m c main_arg3) (V m c main_arg4) (V m c main_arg5) (V m c main_arg6) (V m c main_arg7)) (fun t _ => flushed10_eq m c t) covered10).trans (by rw [V_main_arg0, V_main_arg1, V_main_arg2, V_main_arg3, V_main_arg4, V_main_arg5, V_main_arg6, V_main_arg7])

/-! ### Output window 11: the array after the run -/

/-- What the window's array ends holding: `out0_11` applied to the argument arrays in place of the input blocks. -/
abbrev G11 (a0 : Vec F S64x1024x1152 .fp8e4m3) (a1 : Vec F S64x1024 .f32) (a2 : Vec F S64x1024x1152 .bf16) (a3 : Vec F S64x1024x1152 .fp8e5m2) (a4 : Vec F S64x1024 .f32) (a5 : Vec F S64x1024x1152 .fp8e5m2) (a6 : Vec F S64x1024 .f32) (a7 : Vec F S64x1152 .f32) : Vec F S64x1024 .f32 :=
  k0_pay23 (k0_pay26 a0 a1 a2 a3 a4 a5 a6 a7) (k0_pay32 a0 a1 a2 a3 a4 a5 a6 a7) (k0_pay33 a0 a1 a2 a3 a4 a5 a6 a7) (k0_pay34 a0 a1 a2 a3 a4 a5 a6 a7) (k0_pay35 a0 a1 a2 a3 a4 a5 a6 a7) (k0_pay36 a0 a1 a2 a3 a4 a5 a6 a7)

/-- The one store through the whole rectangle leaves its payload. -/
theorem out11_eq (a0 : Vec F S64x1024x1152 .fp8e4m3) (a1 : Vec F S64x1024 .f32) (a2 : Vec F S64x1024x1152 .bf16) (a3 : Vec F S64x1024x1152 .fp8e5m2) (a4 : Vec F S64x1024 .f32) (a5 : Vec F S64x1024x1152 .fp8e5m2) (a6 : Vec F S64x1024 .f32) (a7 : Vec F S64x1152 .f32) : out0_11 (F := F) a0 a1 a2 a3 a4 a5 a6 a7 = G11 a0 a1 a2 a3 a4 a5 a6 a7 := by
  unfold out0_11
  rw [View.canon_unit_zero hz11]

/-- Cutting the point's block out of `X` and reading `X` through the block's view give the same. -/
theorem cut11_eq (t : Fin cfg0.N) (X : Vec F S64x1024 .f32) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5) (V m c main_arg6) (V m c main_arg7)) := by
  show (cfg0.win 11).cut (grid0.coords t) ((dats m 0 c).after 11 t) = _
  rw [after0_11, out11_eq, iblk0_eq, iblk1_eq, iblk2_eq, iblk3_eq, iblk4_eq, iblk5_eq, iblk6_eq, iblk7_eq]
  exact cut11_eq t _

/-- Every index of the array is in the point's block. -/
theorem covered11 (i : S64x1024.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 11 (G11 (V m c main_arg0) (V m c main_arg1) (V m c main_arg2) (V m c main_arg3) (V m c main_arg4) (V m c main_arg5) (V m c main_arg6) (V m c main_arg7)) (fun t _ => flushed11_eq m c t) covered11).trans (by rw [V_main_arg0, V_main_arg1, V_main_arg2, V_main_arg3, V_main_arg4, V_main_arg5, V_main_arg6, V_main_arg7])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_1) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_2) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_3) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post8 m r h c).trans (final8 m c),
      (post9 m r h c).trans (final9 m c),
      (post10 m r h c).trans (final10 m c),
      (post11 m r h c).trans (final11 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.ReferenceIdeal.Run

end
-- ==== Proof.Agree.lean ====
/- One token in two spellings: as the kernel computes it, the scale of `x` kept out of the sums, and as the reference does. With a
   finite scale of `x` they agree on the normalised input and on the gradient with its product spelled out; and for a token whose
   values are all finite the gradient as layer norm states it is that one. -/
module

public import proofs.«01_k».proof.Proof.Token

@[expose] public section

set_option maxRecDepth 16384

noncomputable section

namespace Cert.KernelIdeal.Group

open Idealize.ShloMosaic

/-- An infinity. -/
def Inf (a : EReal) : Prop := a = ⊤ ∨ a = ⊥

theorem coe_of_not_inf {a : EReal} (h : ¬Inf a) : ∃ r : ℝ, a = r := by
  unfold Inf at h; push Not at h
  exact ⟨a.toReal, (EReal.coe_toReal h.1 h.2).symm⟩

theorem inf_add {a : EReal} (h : Inf a) (b : EReal) : Inf (a + b) := by
  rcases h with rfl | rfl
  · induction b <;> simp [Inf]
  · simp [Inf]

theorem inf_sum {n : ℕ} (v : Fin n → EReal) (q : Fin n) (h : Inf (v q)) : Inf (∑ q, v q) := by
  rw [← Finset.add_sum_erase _ _ (Finset.mem_univ q)]
  exact inf_add h _

theorem coe_sums {n : ℕ} (v : Fin n → ℝ) : (∑ q, ((v q : ℝ) : EReal)) = ((∑ q, v q : ℝ) : EReal) := by
  have : ∀ s : Finset (Fin n), (∑ q ∈ s, ((v q : ℝ) : EReal)) = ((∑ q ∈ s, v q : ℝ) : EReal) := fun s => by
    induction s using Finset.cons_induction with
    | empty => simp
    | cons a s ha ih => rw [Finset.sum_cons, Finset.sum_cons, ih, EReal.coe_add]
  exact this _

theorem sum_top {n : ℕ} (v : Fin n → EReal) (q : Fin n) (h : ∀ q, v q = ⊤) : (∑ q, v q) = ⊤ := by
  rw [← Finset.add_sum_erase _ _ (Finset.mem_univ q), h q]
  refine EReal.top_add_of_ne_bot (ne_of_gt (lt_of_lt_of_le EReal.bot_lt_zero (Finset.sum_nonneg fun i _ => ?_)))
  rw [h i]; exact le_top

theorem inf_mul_invD {a : EReal} (h : Inf a) : Inf (a * invD) := by
  rcases h with rfl | rfl
  · exact .inl (EReal.top_mul_coe_of_pos (by norm_num))
  · exact .inr (EReal.bot_mul_coe_of_pos (by norm_num))

section Ref

variable (x g : Fin 1152 → EReal)

/-- The reference's layer norm of a token, and its gradient in the two spellings. -/
def rMu : EReal := (∑ q, x q) * invD
def rXc (q : Fin 1152) : EReal := x q - rMu x
def rRstd : EReal := Ideal.rsqrt ((∑ q, rXc x q * rXc x q) * invD + Ideal.ofBits .f32 0x358637BD#32)
def rXhat (q : Fin 1152) : EReal := rXc x q * rRstd x
def rMg : EReal := (∑ q, g q) * invD
def rMgx : EReal := (∑ q, g q * rXhat x q) * invD
def rLn (q : Fin 1152) : EReal := rRstd x * (g q - rMg g - rXhat x q * rMgx x g)
def rSlope : EReal := rRstd x * rRstd x * rMgx x g
def rSpelled (q : Fin 1152) : EReal := rRstd x * g q - x q * rSlope x g - (rRstd x * rMg g - rSlope x g * rMu x)

end Ref

theorem eps_pos : ∃ e : ℝ, 0 < e ∧ Ideal.ofBits .f32 0x358637BD#32 = (e : EReal) := by
  refine ⟨_, ?_, by simp [Ideal.ofBits, Ideal.ieee]; rfl⟩
  positivity

/-- A token that holds an infinity: the sum of its squared deviations is infinite, -/
theorem sq_of_inf (x : Fin 1152 → EReal) (q : Fin 1152) (h : Inf (x q)) : (∑ q, rXc x q * rXc x q) = ⊤ := by
  refine sum_top _ q fun p => ?_
  have hm : Inf (rMu x) := inf_mul_invD (inf_sum x q h)
  have : Inf (rXc x p) := by
    unfold rXc
    rcases hm with e | e <;> rw [e]
    · induction x p <;> simp [Inf]
    · induction x p <;> simp [Inf, sub_eq_add_neg]
  rcases this with e | e <;> rw [e] <;> simp

/-- and its normalised input zero. -/
theorem rstd_of_inf (x : Fin 1152 → EReal) (q : Fin 1152) (h : Inf (x q)) : rRstd x = 0 := by
  obtain ⟨e, -, he⟩ := eps_pos
  unfold rRstd
  rw [sq_of_inf x q h, he, EReal.top_mul_coe_of_pos (by norm_num), EReal.top_add_coe, Ideal.rsqrt_top]

theorem tRstd_of_inf (c : Fin 1152 → EReal) (s : ℝ) (hs : s ≠ 0) (q : Fin 1152) (h : Inf (c q)) : tRstd c s = 0 := by
  obtain ⟨e, -, he⟩ := eps_pos
  unfold tRstd
  have : (∑ q, tDev c q * tDev c q) = ⊤ := sq_of_inf c q h
  rw [this, he, EReal.top_mul_coe_of_pos (by norm_num), ← EReal.coe_mul, EReal.top_mul_coe_of_pos (mul_self_pos.2 hs), EReal.top_add_coe,
    Ideal.rsqrt_top]

theorem inf_mul_coe {a : EReal} (h : Inf a) (s : ℝ) (hs : s ≠ 0) : Inf (a * s) := by
  rcases lt_or_gt_of_ne hs with hs | hs <;> rcases h with rfl | rfl
  · exact .inr (EReal.top_mul_coe_of_neg hs)
  · exact .inl (EReal.bot_mul_coe_of_neg hs)
  · exact .inl (EReal.top_mul_coe_of_pos hs)
  · exact .inr (EReal.bot_mul_coe_of_pos hs)

section Two

variable (c f y h m : Fin 1152 → EReal) (s : ℝ) (ys hs : EReal)

/-- The scale taken out of the mean and the deviations, where the codes are finite. -/
theorem mu_scale (hc : ∀ q, ¬Inf (c q)) : rMu (fun q => c q * s) = tMu c * s ∧ ∀ q, rXc (fun q => c q * s) q = tDev c q * s := by
  choose a ha using fun q => coe_of_not_inf (hc q)
  have hm : rMu (fun q => c q * s) = tMu c * s := by
    unfold rMu tMu
    simp only [ha, ← EReal.coe_mul, coe_sums, ← Finset.sum_mul]
    congr 1; ring
  refine ⟨hm, fun q => ?_⟩
  unfold rXc tDev
  rw [hm]
  unfold tMu
  simp only [ha, ← EReal.coe_mul, coe_sums, ← EReal.coe_sub]
  congr 1; ring

/-- The reciprocal deviations agree, and the normalised input. -/
theorem rstd_agree : tRstd c s = rRstd fun q => c q * s := by
  by_cases h0 : s = 0
  · subst h0
    unfold tRstd rRstd rXc rMu
    simp
  by_cases hc : ∀ q, ¬Inf (c q)
  · obtain ⟨-, hd⟩ := mu_scale c s hc
    choose a ha using fun q => coe_of_not_inf (hc q)
    unfold tRstd rRstd
    simp only [hd]
    refine congrArg (fun z => Ideal.rsqrt (z + _)) ?_
    unfold tDev tMu
    simp only [ha, ← EReal.coe_mul, coe_sums, ← EReal.coe_sub]
    congr 1
    simp only [Finset.sum_mul, Finset.mul_sum]
    refine Finset.sum_congr rfl fun q _ => ?_
    ring
  · push Not at hc
    obtain ⟨q, hq⟩ := hc
    rw [tRstd_of_inf c s h0 q hq, rstd_of_inf _ q (inf_mul_coe hq s h0)]

theorem xhat_agree (q : Fin 1152) : tXhat c s q = rXhat (fun q => c q * s) q := by
  unfold tXhat rXhat tXr
  rw [rstd_agree]
  by_cases h0 : s = 0
  · subst h0
    unfold rXc rMu
    simp
  by_cases hc : ∀ q, ¬Inf (c q)
  · rw [(mu_scale c s hc).2 q, mul_assoc]
  · push Not at hc
    obtain ⟨p, hp⟩ := hc
    rw [rstd_of_inf _ p (inf_mul_coe hp s h0), mul_zero, mul_zero, mul_zero]

theorem pr_agree (q : Fin 1152) : tPr c h s hs q = h q * hs * rXhat (fun q => c q * s) q := by
  unfold tPr; rw [xhat_agree]

theorem mgx_agree : tMgx c h m s hs = rMgx (fun q => c q * s) (fun q => h q * hs * m q) := by
  unfold tMgx rMgx
  refine congrArg (· * invD) (Finset.sum_congr rfl fun q _ => ?_)
  rw [pr_agree, mul_right_comm]

/-- The gradients agree, the reference's with its product spelled out. -/
theorem dx_agree (q : Fin 1152) : tDx c y h m s ys hs q = y q * ys + rSpelled (fun q => c q * s) (fun q => h q * hs * m q) q := by
  unfold tDx rSpelled tOff tCx rSlope tXr
  rw [mgx_agree, rstd_agree]
  generalize rMgx (fun q => c q * s) (fun q => h q * hs * m q) = M
  rw [show tMg h m hs = rMg fun q => h q * hs * m q from rfl]
  generalize rMg (fun q => h q * hs * m q) = G
  refine congrArg (y q * ys + ·) ?_
  by_cases h0 : s = 0
  · subst h0
    unfold rMu
    simp only [EReal.coe_zero, zero_mul, mul_zero, sub_zero, Finset.sum_const_zero]
    congr 1
    rw [mul_comm (h q * hs) (m q), mul_comm (rRstd _), ← mul_assoc, ← mul_assoc, mul_comm (h q) (m q)]
  by_cases hc : ∀ q, ¬Inf (c q)
  · rw [(mu_scale c s hc).1]
    generalize rRstd (fun q => c q * s) = r
    have e1 : h q * m q * (hs * r) = r * (h q * hs * m q) := by ac_rfl
    have e2 : c q * (s * r * (M * r)) = c q * s * (r * r * M) := by ac_rfl
    have e3 : s * r * (M * r) * tMu c = r * r * M * (tMu c * s) := by ac_rfl
    rw [e1, e2, e3]
  · push Not at hc
    obtain ⟨p, hp⟩ := hc
    rw [rstd_of_inf _ p (inf_mul_coe hp s h0)]
    simp

end Two

/-- A token whose values are finite: the gradient as layer norm states it is the spelled-out one. -/
theorem ln_spelled (x g : Fin 1152 → EReal) (hx : ∀ q, ¬Inf (x q)) (hg : ∀ q, ¬Inf (g q)) (q : Fin 1152) : rLn x g q = rSpelled x g q := by
  choose a ha using fun q => coe_of_not_inf (hx q)
  choose b hb using fun q => coe_of_not_inf (hg q)
  obtain ⟨e, he, hee⟩ := eps_pos
  obtain ⟨μ, hμ⟩ : ∃ μ : ℝ, rMu x = μ := by
    unfold rMu; simp only [ha, coe_sums, ← EReal.coe_mul]; exact ⟨_, rfl⟩
  have hxc : ∀ q, rXc x q = ((a q - μ : ℝ) : EReal) := fun q => by unfold rXc; rw [hμ, ha, EReal.coe_sub]
  obtain ⟨r, hr⟩ : ∃ r : ℝ, rRstd x = r := by
    unfold rRstd
    simp only [hxc, hee, ← EReal.coe_mul, coe_sums, ← EReal.coe_add]
    have hp : 0 < (∑ q, (a q - μ) * (a q - μ)) * (1 / 1152) + e := by
      have : 0 ≤ ∑ q, (a q - μ) * (a q - μ) := Finset.sum_nonneg fun q _ => mul_self_nonneg _
      positivity
    rw [Ideal.rsqrt_coe, if_neg (not_lt.2 hp.le), if_neg hp.ne']
    exact ⟨_, rfl⟩
  have hxh : ∀ q, rXhat x q = (((a q - μ) * r : ℝ) : EReal) := fun q => by unfold rXhat; rw [hxc, hr, EReal.coe_mul]
  obtain ⟨G, hG⟩ : ∃ G : ℝ, rMg g = G := by
    unfold rMg; simp only [hb, coe_sums, ← EReal.coe_mul]; exact ⟨_, rfl⟩
  obtain ⟨M, hM⟩ : ∃ M : ℝ, rMgx x g = M := by
    unfold rMgx; simp only [hb, hxh, ← EReal.coe_mul, coe_sums]; exact ⟨_, rfl⟩
  unfold rLn rSpelled rSlope
  rw [hr, hM, hG, hμ, hxh, ha, hb]
  simp only [← EReal.coe_mul, ← EReal.coe_sub]
  congr 1; ring

end Cert.KernelIdeal.Group

end
-- ==== Proof.Scale.lean ====
/- The quantiser's scale: the kernel finds the exponent field of the largest gradient over 57344 by bisection and builds the power
   of two above it, and its inverse, from that field; the reference takes the floor of the logarithm. The two agree. -/
module

public import proofs.«01_k».proof.Proof.Token

@[expose] public section

set_option maxRecDepth 16384

noncomputable section

namespace Cert.KernelIdeal.Group

open Idealize.ShloMosaic

/-- The word whose exponent field is `k`, sign and fraction zero. -/
def word (k : BitVec 8) : BitVec 32 := k.setWidth 32 <<< 23

theorem word_or (a b : BitVec 8) : word (a ||| b) = word a ||| word b := by
  unfold word
  rw [BitVec.setWidth_or, BitVec.shiftLeft_or_distrib]

/-- What such a word denotes. -/
def level (k : BitVec 8) : EReal := Ideal.ofBits .f32 (word k)

theorem ofBits_word (k : BitVec 8) : Ideal.ofBits .f32 (word k) = level k := rfl

theorem word_fields : ∀ k : BitVec 8, ((word k).extractLsb' (8 + 23) 1 == 1#1) = false ∧ ((word k).extractLsb' 23 8).toNat = k.toNat
    ∧ ((word k).extractLsb' 0 23).toNat = 0 := by
  decide +kernel

theorem level_zero : level 0#8 = 0 := by
  simp [level, word, Ideal.ofBits, Ideal.ieee]

theorem level_top : level 255#8 = ⊤ := by
  simp [level, word, Ideal.ofBits, Ideal.ieee]

theorem level_of (k : BitVec 8) (h0 : k.toNat ≠ 0) (h1 : k.toNat ≠ 255) : level k = (((2 : ℝ) ^ ((k.toNat : ℤ) - 127) : ℝ) : EReal) := by
  obtain ⟨e1, e2, e3⟩ := word_fields k
  unfold level Ideal.ofBits Ideal.ieee
  simp only [e1, e2, e3]
  rw [if_neg (by simpa using h1), if_neg h0]
  refine congrArg Real.toEReal ?_
  have : ((k.toNat : ℤ) - (2 ^ (8 - 1) - 1) - ((23 : ℕ) : ℤ)) = ((k.toNat : ℤ) - 127) - 23 := by norm_num
  rw [this, zpow_sub₀ (by norm_num : (2 : ℝ) ≠ 0)]
  norm_num
  ring

/-- The bisection over eight-bit fields. -/
def stepB (P : BitVec 8 → Bool) (b f : BitVec 8) : BitVec 8 := if P (f ||| b) then f ||| b else f
def fieldB (P : BitVec 8 → Bool) : BitVec 8 :=
  stepB P 1#8 (stepB P 2#8 (stepB P 4#8 (stepB P 8#8 (stepB P 16#8 (stepB P 32#8 (stepB P 64#8 (stepB P 128#8 0#8)))))))

theorem fieldB_le : ∀ n : Fin 256, fieldB (fun k => decide (k.toNat ≤ n.val)) = BitVec.ofNat 8 n.val := by
  decide +kernel

theorem cmp_oge (x y : EReal) : Ideal.cmp .oge x y = BitVec.ofBool (decide (y ≤ x)) := rfl

/-- One step of the kernel's search, on words. -/
def stepW (r : EReal) (b f : BitVec 32) : BitVec 32 := if Ideal.ofBits .f32 (f ||| b) ≤ r then f ||| b else f

theorem stepW_word (r : EReal) (b f : BitVec 8) : stepW r (word b) (word f) = word (stepB (fun k => decide (level k ≤ r)) b f) := by
  unfold stepW stepB level
  rw [← word_or]
  by_cases h : Ideal.ofBits .f32 (word (f ||| b)) ≤ r <;> simp [h]

/-- The kernel's field, at a ratio. -/
def fieldW (r : EReal) : BitVec 32 :=
  if Ideal.ofBits .f32 0x7E800000#32 ≤ r then 2139095040#32
  else stepW r 8388608#32 (stepW r 16777216#32 (stepW r 33554432#32 (stepW r 67108864#32 (stepW r 134217728#32
      (stepW r 268435456#32 (stepW r 536870912#32 (stepW r 1073741824#32 0#32)))))))

theorem step_at (r : FVec Ideal S32x1 .f32) (b : BitVec 32) (f : IVec S32x1 32) (i : S32x1.Idx) :
    step (F := Ideal) r b f i = stepW (r i) b (f i) := by
  unfold step stepW
  show (if Ideal.cmp .oge (r i) (Ideal.ofBits .f32 (f i ||| b)) = 1#1 then f i ||| b else f i) = _
  rw [cmp_oge]
  by_cases h : Ideal.ofBits .f32 (f i ||| b) ≤ r i <;> simp [h]

theorem field_at (r : FVec Ideal S32x1 .f32) (i : S32x1.Idx) : field (F := Ideal) r i = fieldW (r i) := by
  unfold field fieldW
  show (if Ideal.cmp .oge (r i) (Ideal.ofBits .f32 0x7E800000#32) = 1#1 then (2139095040#32 : BitVec 32) else step (F := Ideal) r _ _ i) = _
  simp only [step_at]
  rw [cmp_oge]
  by_cases h : Ideal.ofBits .f32 0x7E800000#32 ≤ r i <;> simp [h, broadcast]

theorem fieldW_word (r : EReal) (h : ¬Ideal.ofBits .f32 0x7E800000#32 ≤ r) : fieldW r = word (fieldB fun k => decide (level k ≤ r)) := by
  unfold fieldW fieldB
  rw [if_neg h]
  rw [show (0#32 : BitVec 32) = word 0#8 from rfl, show (8388608#32 : BitVec 32) = word 1#8 from rfl, show (16777216#32 : BitVec 32) = word 2#8 from rfl,
    show (33554432#32 : BitVec 32) = word 4#8 from rfl, show (67108864#32 : BitVec 32) = word 8#8 from rfl,
    show (134217728#32 : BitVec 32) = word 16#8 from rfl, show (268435456#32 : BitVec 32) = word 32#8 from rfl,
    show (536870912#32 : BitVec 32) = word 64#8 from rfl, show (1073741824#32 : BitVec 32) = word 128#8 from rfl]
  simp only [stepW_word]

theorem fieldW_of (r : EReal) (h : ¬Ideal.ofBits .f32 0x7E800000#32 ≤ r) (n : Fin 256) (hn : ∀ k : BitVec 8, level k ≤ r ↔ k.toNat ≤ n.val) :
    fieldW r = word (BitVec.ofNat 8 n.val) := by
  rw [fieldW_word r h, ← fieldB_le n]
  congr 2
  funext k
  exact decide_eq_decide.2 (hn k)

/-- A field that stands for no normal power of two. -/
def plainW (w : BitVec 32) : Bool := w == 0#32 || w == 2139095040#32

theorem tUp_eq (r : EReal) : tUp r = if plainW (fieldW r) then 1 else Ideal.ofBits .f32 (fieldW r + 8388608#32) := by
  unfold tUp scaleUp plain
  show (if (BitVec.ofBool (decide (field (F := Ideal) (fun _ => r) (ix2 0 0) = 0#32)) ||| BitVec.ofBool (decide (field (F := Ideal) (fun _ => r) (ix2 0 0) = 2139095040#32))) = 1#1
    then Ideal.ofBits .f32 0x3F800000#32 else Ideal.ofBits .f32 (field (F := Ideal) (fun _ => r) (ix2 0 0) + 8388608#32)) = _
  rw [field_at, show Ideal.ofBits .f32 0x3F800000#32 = 1 from IdealRules.sign_bit.ideal_onePat .f32]
  unfold plainW
  by_cases h1 : fieldW r = 0#32 <;> by_cases h2 : fieldW r = 2139095040#32 <;> simp [h1, h2]

theorem tDown_eq (r : EReal) : tDown r = if plainW (fieldW r) then 1 else Ideal.ofBits .f32 (2122317824#32 - fieldW r) := by
  unfold tDown scaleDown plain
  show (if (BitVec.ofBool (decide (field (F := Ideal) (fun _ => r) (ix2 0 0) = 0#32)) ||| BitVec.ofBool (decide (field (F := Ideal) (fun _ => r) (ix2 0 0) = 2139095040#32))) = 1#1
    then Ideal.ofBits .f32 0x3F800000#32 else Ideal.ofBits .f32 (2122317824#32 - field (F := Ideal) (fun _ => r) (ix2 0 0))) = _
  rw [field_at, show Ideal.ofBits .f32 0x3F800000#32 = 1 from IdealRules.sign_bit.ideal_onePat .f32]
  unfold plainW
  by_cases h1 : fieldW r = 0#32 <;> by_cases h2 : fieldW r = 2139095040#32 <;> simp [h1, h2]

theorem words_mid : ∀ n : Fin 256, 1 ≤ n.val → n.val ≤ 252 → plainW (word (BitVec.ofNat 8 n.val)) = false
    ∧ word (BitVec.ofNat 8 n.val) + 8388608#32 = word (BitVec.ofNat 8 (n.val + 1))
    ∧ 2122317824#32 - word (BitVec.ofNat 8 n.val) = word (BitVec.ofNat 8 (253 - n.val)) := by
  decide +kernel

theorem level_nat (n : ℕ) (h0 : n ≠ 0) (h1 : n < 255) : level (BitVec.ofNat 8 n) = (((2 : ℝ) ^ ((n : ℤ) - 127) : ℝ) : EReal) := by
  have e : (BitVec.ofNat 8 n).toNat = n := by simp; omega
  rw [level_of _ (by rw [e]; exact h0) (by rw [e]; omega), e]

/-- The reference's exponent of a ratio: the floor of its logarithm and one, zero off the normal range. -/
def rExp (r : EReal) : EReal :=
  if Ideal.ofBits .f32 0x00800000#32 ≤ r ∧ r < Ideal.ofBits .f32 0x7E800000#32 then
    Ideal.liftRound Int.floor (Ideal.div (Ideal.log r) (Ideal.log (Ideal.ofBits .f32 0x40000000#32))) + 1
  else 0

theorem lo_eq : Ideal.ofBits .f32 0x00800000#32 = (((2 : ℝ) ^ (-126 : ℤ) : ℝ) : EReal) := by
  have := level_nat 1 (by norm_num) (by norm_num)
  norm_num at this
  rw [show Ideal.ofBits .f32 0x00800000#32 = level 1#8 from rfl, this]
  norm_num

theorem hi_eq : Ideal.ofBits .f32 0x7E800000#32 = (((2 : ℝ) ^ (126 : ℤ) : ℝ) : EReal) := by
  have := level_nat 253 (by norm_num) (by norm_num)
  rw [show Ideal.ofBits .f32 0x7E800000#32 = level (BitVec.ofNat 8 253) from rfl, this]
  norm_num

theorem two_eq : Ideal.ofBits .f32 0x40000000#32 = ((2 : ℝ) : EReal) := by
  have := level_nat 128 (by norm_num) (by norm_num)
  rw [show Ideal.ofBits .f32 0x40000000#32 = level (BitVec.ofNat 8 128) from rfl, this]
  norm_num

/-- A ratio in the normal range: the exponent as a whole number, and the field it has. -/
theorem mid (t : ℝ) (h0 : (2 : ℝ) ^ (-126 : ℤ) ≤ t) (h1 : t < (2 : ℝ) ^ (126 : ℤ)) :
    ∃ n : Fin 256, 1 ≤ n.val ∧ n.val ≤ 252 ∧ (∀ k : BitVec 8, level k ≤ (t : EReal) ↔ k.toNat ≤ n.val)
      ∧ rExp t = (((((n.val : ℤ) - 126 : ℤ)) : ℝ) : EReal) := by
  have hp : 0 < t := lt_of_lt_of_le (by positivity) h0
  have key : ∀ z : ℤ, (2 : ℝ) ^ z ≤ t ↔ z ≤ ⌊Real.log t / Real.log 2⌋ := fun z => by
    rw [Int.le_floor, le_div_iff₀ (Real.log_pos (by norm_num)), ← Real.log_zpow, Real.log_le_log_iff (by positivity) hp]
  have a0 : -126 ≤ ⌊Real.log t / Real.log 2⌋ := (key _).1 h0
  have a1 : ⌊Real.log t / Real.log 2⌋ < 126 := by
    by_contra h; push Not at h
    exact absurd ((key 126).2 h) (not_le.2 h1)
  obtain ⟨n, hn⟩ : ∃ n : ℕ, (n : ℤ) = ⌊Real.log t / Real.log 2⌋ + 127 := ⟨(⌊Real.log t / Real.log 2⌋ + 127).toNat, by omega⟩
  refine ⟨⟨n, by omega⟩, by show 1 ≤ n; omega, by show n ≤ 252; omega, fun k => ?_, ?_⟩
  · by_cases e0 : k.toNat = 0
    · have : k = 0#8 := BitVec.eq_of_toNat_eq (by simpa using e0)
      subst this
      rw [level_zero]
      exact iff_of_true (by exact_mod_cast hp.le) (Nat.zero_le _)
    by_cases e1 : k.toNat = 255
    · have : k = 255#8 := BitVec.eq_of_toNat_eq (by simpa using e1)
      subst this
      rw [level_top]
      refine iff_of_false (by simp) ?_
      show ¬ 255 ≤ n; omega
    rw [level_of k e0 e1, EReal.coe_le_coe_iff, key]
    show _ ↔ k.toNat ≤ n
    omega
  · unfold rExp
    rw [lo_eq, hi_eq, two_eq, if_pos ⟨by exact_mod_cast h0, by exact_mod_cast h1⟩, Ideal.log_coe, Ideal.log_coe, if_neg (not_le.2 hp), if_neg (by norm_num),
      Ideal.div_coe (Real.log_pos (by norm_num)).ne', ← EReal.coe_mul, Ideal.liftRound_coe]
    rw [show Real.log t * (1 / Real.log 2) = Real.log t / Real.log 2 by ring]
    have : ⌊Real.log t / Real.log 2⌋ = (n : ℤ) - 127 := by omega
    rw [this, show (1 : EReal) = ((1 : ℝ) : EReal) from rfl, ← EReal.coe_add]
    congr 1
    push_cast; ring

theorem exp2_int (z : ℤ) : Ideal.exp2 (((z : ℝ)) : EReal) = (((2 : ℝ) ^ z : ℝ) : EReal) := by
  rw [Ideal.exp2_coe]
  congr 1
  exact Real.rpow_intCast 2 z

theorem exp2_zero : Ideal.exp2 0 = 1 := by
  have := exp2_int 0
  simpa using this

/-- The scale and its inverse agree with the reference's. -/
theorem scales_agree (r : EReal) (hr : 0 ≤ r) : tUp r = Ideal.exp2 (rExp r) ∧ tDown r = Ideal.exp2 (0 - rExp r) := by
  rw [tUp_eq, tDown_eq]
  by_cases hh : Ideal.ofBits .f32 0x7E800000#32 ≤ r
  · have e : rExp r = 0 := if_neg fun h => absurd hh (not_le.2 h.2)
    have f : fieldW r = 2139095040#32 := if_pos hh
    rw [e, f]
    simp [plainW, exp2_zero]
  by_cases hl : Ideal.ofBits .f32 0x00800000#32 ≤ r
  · obtain ⟨t, rfl⟩ : ∃ t : ℝ, r = t := by
      induction r with
      | bot => exact absurd hr (by simp)
      | top => exact absurd le_top hh
      | coe t => exact ⟨t, rfl⟩
    have h0 : (2 : ℝ) ^ (-126 : ℤ) ≤ t := by rw [lo_eq] at hl; exact_mod_cast hl
    have h1 : t < (2 : ℝ) ^ (126 : ℤ) := by rw [hi_eq] at hh; exact_mod_cast not_le.1 hh
    obtain ⟨n, n1, n2, hn, he⟩ := mid t h0 h1
    rw [fieldW_of _ hh n hn, he]
    obtain ⟨p, u, d⟩ := words_mid n n1 n2
    simp only [p, Bool.false_eq_true, if_false, u, d, ofBits_word]
    have hu := level_nat (n.val + 1) (by omega) (by omega)
    have hd := level_nat (253 - n.val) (by omega) (by omega)
    refine ⟨?_, ?_⟩
    · rw [exp2_int]
      rw [hu]
      refine congrArg (fun z : ℤ => (((2 : ℝ) ^ z : ℝ) : EReal)) ?_
      push_cast; ring
    · rw [zero_sub, ← EReal.coe_neg, show (-(((n.val : ℤ) - 126 : ℤ) : ℝ)) = ((126 - (n.val : ℤ) : ℤ) : ℝ) by push_cast; ring, exp2_int]
      rw [hd]
      refine congrArg (fun z : ℤ => (((2 : ℝ) ^ z : ℝ) : EReal)) ?_
      omega
  · have e : rExp r = 0 := if_neg fun h => hl h.1
    have f : fieldW r = word (BitVec.ofNat 8 (0 : Fin 256).val) := fieldW_of r hh 0 fun k => by
      constructor
      · intro hk
        by_contra hne
        have hne : k.toNat ≠ 0 := fun h => hne (by simp [h])
        refine hl (le_trans ?_ hk)
        by_cases e1 : k.toNat = 255
        · have : k = 255#8 := BitVec.eq_of_toNat_eq (by simpa using e1)
          rw [this, level_top]; exact le_top
        · rw [level_of k hne e1, lo_eq, EReal.coe_le_coe_iff]
          exact zpow_le_zpow_right₀ (by norm_num) (by omega)
      · intro hk
        have : k = 0#8 := BitVec.eq_of_toNat_eq (by simpa using hk)
        rw [this, level_zero]; exact hr
    rw [e, f]
    simp [plainW, word, exp2_zero]

end Cert.KernelIdeal.Group

end
-- ==== Proof.RefRead.lean ====
/- The reference's values read at a token and a column: the layer norm of the token, its gradient, and the quantiser. -/
module

public import proofs.«01_k».proof.Proof.Gen.ReferenceIdeal.Skeleton
public import proofs.«01_k».proof.Proof.Agree
public import proofs.«01_k».proof.Proof.Scale

@[expose] public section

set_option maxRecDepth 16384

noncomputable section

namespace Cert.ReferenceIdeal.Read

open Idealize.ShloMosaic Idealize.ShloMosaic.TcCoe Idealize.SL.Sem Cert.ReferenceIdeal Cert.ReferenceIdeal.Gen
open Cert.KernelIdeal.Group (rMu rXc rRstd rXhat rMg rMgx rLn rSlope rSpelled rExp absE Inf invD)

theorem div_cols (x : EReal) : Ideal.div x (Ideal.ofBits .f32 0x44900000#32) = x * invD := by
  have : Ideal.ofBits .f32 0x44900000#32 = ((1152 : ℝ) : EReal) := by
    simp [Ideal.ofBits, Ideal.ieee]
    rw [← EReal.coe_mul]
    norm_num
  rw [this, Ideal.div_coe (by norm_num)]

/-- The largest of finitely many values, as the reduction writes it. -/
theorem fold_sup {n : Nat} (f : Fin n → EReal) : Finset.fold max (Ideal.ofBits FTy.f32 0xFF800000#32) f Finset.univ = Finset.univ.sup f := by
  rw [show Ideal.ofBits FTy.f32 0xFF800000#32 = ⊥ by simp [Ideal.ofBits, Ideal.ieee]]
  rfl

theorem absf_eq (a : EReal) : FloatOps.absf (F := Ideal) (φ := .f32) a = absE a := rfl

theorem exp2_eq (a : EReal) : FloatOps.exp2 (F := Ideal) (φ := .f32) a = Ideal.exp2 a := rfl

section Tok

variable (a0 : Vec Ideal S64x1024x1152 .fp8e4m3) (a1 : Vec Ideal S64x1024 .f32) (a2 : Vec Ideal S64x1024x1152 .bf16)
  (a3 : Vec Ideal S64x1024x1152 .fp8e5m2) (a4 : Vec Ideal S64x1024 .f32) (a5 : Vec Ideal S64x1024x1152 .fp8e5m2) (a6 : Vec Ideal S64x1024 .f32)
  (a7 : Vec Ideal S64x1152 .f32) (s : Fin 64) (p : Fin 1024)

/-- A token of `x`, of the outgoing gradient times the modulation. -/
def xTok (q : Fin 1152) : EReal := a0 (ix3 s p q) * a1 (ix2 s p)
def gTok (q : Fin 1152) : EReal := a5 (ix3 s p q) * a6 (ix2 s p) * (1 + a7 (ix2 s q))

theorem pay1_at (q : Fin 1152) : k0_pay1 (F := Ideal) a0 a1 (ix3 s p q) = xTok a0 a1 s p q := by
  pointwise [k0_pay1]
  rfl

theorem pay2_at (q : Fin 1152) : k0_pay2 (F := Ideal) a3 a4 (ix3 s p q) = a3 (ix3 s p q) * a4 (ix2 s p) := by
  pointwise [k0_pay2]

theorem pay3_at (q : Fin 1152) : k0_pay3 (F := Ideal) a5 a6 (ix3 s p q) = a5 (ix3 s p q) * a6 (ix2 s p) := by
  pointwise [k0_pay3]

theorem pay4_at : k0_pay4 (F := Ideal) a0 a1 (ix3 s p 0) = rMu (xTok a0 a1 s p) := by
  pointwise [k0_pay4]
  simp only [pay1_at]
  exact div_cols _

theorem pay5_at (q : Fin 1152) : k0_pay5 (F := Ideal) a0 a1 (ix3 s p q) = rXc (xTok a0 a1 s p) q := by
  pointwise [k0_pay5]
  rw [pay1_at, pay4_at]
  rfl

theorem pay6_at : k0_pay6 (F := Ideal) a0 a1 (ix3 s p 0) = rRstd (xTok a0 a1 s p) := by
  pointwise [k0_pay6]
  simp only [pay5_at]
  rw [div_cols]
  rfl

theorem pay7_at (q : Fin 1152) : k0_pay7 (F := Ideal) a0 a1 (ix3 s p q) = rXhat (xTok a0 a1 s p) q := by
  pointwise [k0_pay7]
  rw [pay5_at, pay6_at]
  rfl

theorem pay12_at (q : Fin 1152) : k0_pay12 (F := Ideal) (k0_pay3 a5 a6) a7 (ix3 s p q) = gTok a5 a6 a7 s p q := by
  pointwise [k0_pay12]
  rw [pay3_at]
  rfl

theorem pay13_at : k0_pay13 (F := Ideal) (k0_pay3 a5 a6) a7 (ix3 s p 0) = rMg (gTok a5 a6 a7 s p) := by
  pointwise [k0_pay13]
  simp only [pay12_at]
  exact div_cols _

theorem pay14_at : k0_pay14 (F := Ideal) (k0_pay3 a5 a6) (k0_pay7 a0 a1) a7 (ix3 s p 0) = rMgx (xTok a0 a1 s p) (gTok a5 a6 a7 s p) := by
  pointwise [k0_pay14]
  simp only [pay12_at, pay7_at]
  exact div_cols _

theorem pay15_at (q : Fin 1152) : k0_pay15 (F := Ideal) (k0_pay3 a5 a6) (k0_pay6 a0 a1) (k0_pay7 a0 a1) a7 (ix3 s p q)
    = rLn (xTok a0 a1 s p) (gTok a5 a6 a7 s p) q := by
  pointwise [k0_pay15]
  rw [pay12_at, pay13_at, pay14_at, pay6_at, pay7_at]
  rfl

theorem pay17_at : k0_pay17 (F := Ideal) (k0_pay3 a5 a6) (k0_pay6 a0 a1) (k0_pay7 a0 a1) a7 (ix3 s p 0)
    = rSlope (xTok a0 a1 s p) (gTok a5 a6 a7 s p) := by
  pointwise [k0_pay17]
  rw [pay14_at, pay6_at]
  rfl

theorem pay18_at (q : Fin 1152) : k0_pay18 (F := Ideal) (k0_pay1 a0 a1) (k0_pay3 a5 a6) (k0_pay6 a0 a1) (k0_pay7 a0 a1) a7 (ix3 s p q)
    = rRstd (xTok a0 a1 s p) * gTok a5 a6 a7 s p q - xTok a0 a1 s p q * rSlope (xTok a0 a1 s p) (gTok a5 a6 a7 s p) := by
  pointwise [k0_pay18]
  rw [pay12_at, pay17_at, pay6_at, pay1_at]

theorem pay19_at : k0_pay19 (F := Ideal) (k0_pay3 a5 a6) (k0_pay6 a0 a1) a7 (ix3 s p 0) = rRstd (xTok a0 a1 s p) * rMg (gTok a5 a6 a7 s p) := by
  pointwise [k0_pay19]
  rw [pay13_at, pay6_at]

theorem pay20_at : k0_pay20 (F := Ideal) (k0_pay3 a5 a6) (k0_pay4 a0 a1) (k0_pay6 a0 a1) (k0_pay7 a0 a1) a7 (ix3 s p 0)
    = rSlope (xTok a0 a1 s p) (gTok a5 a6 a7 s p) * rMu (xTok a0 a1 s p) := by
  pointwise [k0_pay20]
  rw [pay17_at, pay4_at]

/-- The largest magnitude in a token. -/
def rLargest : EReal := Finset.univ.sup fun q => max (absE (xTok a0 a1 s p q)) (absE (gTok a5 a6 a7 s p q))

theorem pay16_at : k0_pay16 (F := Ideal) (k0_pay1 a0 a1) (k0_pay3 a5 a6) a7 (ix3 s p 0) = rLargest a0 a1 a5 a6 a7 s p := by
  pointwise [k0_pay16]
  simp only [pay12_at, pay1_at]
  simp only [absf_eq, fold_sup]
  rfl

theorem pay21_at (w11 w70 w82 : FVec Ideal S64x1024x1152 .f32) (w75 w83 w84 : FVec Ideal S64x1024x1 .f32) (q : Fin 1152)
    (h : ¬ Inf (w75 (ix3 s p 0)) → w70 (ix3 s p q) = w82 (ix3 s p q) - (w83 (ix3 s p 0) - w84 (ix3 s p 0))) :
    k0_pay21 (F := Ideal) w11 w70 w75 w82 w83 w84 (ix3 s p q)
      = w11 (ix3 s p q) + (w82 (ix3 s p q) - (w83 (ix3 s p 0) - w84 (ix3 s p 0))) := by
  pointwise [k0_pay21]
  refine congrArg _ ?_
  by_cases hi : w75 (ix3 s p 0) = ⊤ ∨ w75 (ix3 s p 0) = ⊥
  · rw [show FloatOps.weird (w75 (ix3 s p 0)) = 1#1 from by
      show BitVec.ofBool (decide (w75 (ix3 s p 0) = ⊤ ∨ w75 (ix3 s p 0) = ⊥)) = 1#1
      rw [decide_eq_true hi]; rfl]
    rfl
  · rw [show FloatOps.weird (w75 (ix3 s p 0)) = 0#1 from by
      show BitVec.ofBool (decide (w75 (ix3 s p 0) = ⊤ ∨ w75 (ix3 s p 0) = ⊥)) = 0#1
      rw [decide_eq_false hi]; rfl]
    exact h hi

end Tok

end Cert.ReferenceIdeal.Read

end
-- ==== Proof.RefSums.lean ====
/- The reference's three sums over the tokens of a block, and their sum over the blocks. -/
module

public import proofs.«01_k».proof.Proof.Gen.ReferenceIdeal.Skeleton
public import proofs.«01_k».proof.Proof.RefRead

@[expose] public section

set_option maxRecDepth 16384

noncomputable section

namespace Cert.ReferenceIdeal.Read

open Idealize.ShloMosaic Idealize.ShloMosaic.TcCoe Idealize.SL.Sem Cert.ReferenceIdeal Cert.ReferenceIdeal.Gen
open Cert.KernelIdeal.Group (rMu rXc rRstd rXhat rMg rMgx rLn rSlope rSpelled rExp absE Inf invD)

/-- A sequence's tokens, in blocks of 128. -/
def tok (k : Fin 8) (t : Fin 128) : Fin 1024 := ⟨128 * k.val + t.val, by omega⟩

theorem split_rows {α : Type} (x : S64x1024x1152.Idx → α) (h : S64x1024x1152.ShapeCasts S64x8x128x1152) (s : Fin 64) (k : Fin 8) (t : Fin 128) (q : Fin 1152) :
    shapeCast S64x8x128x1152 x h (ix4 s k t q) = x (ix3 s (tok k t) q) :=
  shapeCast_apply x h _ _ (by
    rw [Shape.rowMajor_val_four, Shape.rowMajor_val_three]
    show (s.val * 1024 + (128 * k.val + t.val)) * 1152 + q.val = ((s.val * 8 + k.val) * 128 + t.val) * 1152 + q.val
    omega)

theorem unit_row {α : Type} (x : S64x8x1152.Idx → α) (h : S64x8x1152.ShapeCasts S64x8x1x1152) (s : Fin 64) (k : Fin 8) (q : Fin 1152) :
    shapeCast S64x8x1x1152 x h (ix4 s k 0 q) = x (ix3 s k q) :=
  shapeCast_apply x h _ _ (by
    rw [Shape.rowMajor_val_four, Shape.rowMajor_val_three]
    show (s.val * 8 + k.val) * 1152 + q.val = ((s.val * 8 + k.val) * 1 + 0) * 1152 + q.val
    omega)

theorem sum_rows (x : FVec Ideal S64x8x128x1152 .f32) (s : Fin 64) (k : Fin 8) (q : Fin 1152) :
    multiReduction .add [2] S64x8x1152 x 0x00000000#32 reduces_S64x8x128x1152_S64x8x1152 (.inl rfl) rfl (ix3 s k q) = ∑ t : Fin 128, x (ix4 s k t q) := by
  pointwise

theorem cat_rows (u v w : FVec Ideal S64x8x1x1152 .f32) (s : Fin 64) (k : Fin 8) (a : Fin 3) (q : Fin 1152) :
    concatenate S64x8x3x1152 2 [⟨S64x8x1x1152, u⟩, ⟨S64x8x1x1152, v⟩, ⟨S64x8x1x1152, w⟩] concatenates_S64x8x1x1152_S64x8x1x1152_S64x8x1x1152_S64x8x3x1152_d2
      (ix4 s k a q) = ![u (ix4 s k 0 q), v (ix4 s k 0 q), w (ix4 s k 0 q)] a := by
  fin_cases a
  all_goals pointwise

section Tok

variable (a0 : Vec Ideal S64x1024x1152 .fp8e4m3) (a1 : Vec Ideal S64x1024 .f32) (a2 : Vec Ideal S64x1024x1152 .bf16)
  (a3 : Vec Ideal S64x1024x1152 .fp8e5m2) (a4 : Vec Ideal S64x1024 .f32) (a5 : Vec Ideal S64x1024x1152 .fp8e5m2) (a6 : Vec Ideal S64x1024 .f32)
  (a7 : Vec Ideal S64x1152 .f32) (s : Fin 64) (p : Fin 1024)

theorem pay8_at (k : Fin 8) (q : Fin 1152) : k0_pay8 (F := Ideal) a5 a6 (ix3 s k q)
    = ∑ t : Fin 128, a5 (ix3 s (tok k t) q) * a6 (ix2 s (tok k t)) := by
  unfold k0_pay8
  refine (sum_rows _ s k q).trans (Finset.sum_congr rfl fun t _ => ?_)
  rw [split_rows, pay3_at]

theorem pay9_at (k : Fin 8) (t : Fin 128) (q : Fin 1152) : k0_pay9 (F := Ideal) a0 a1 a5 a6 (ix4 s k t q)
    = a5 (ix3 s (tok k t) q) * a6 (ix2 s (tok k t)) * rXhat (xTok a0 a1 s (tok k t)) q := by
  unfold k0_pay9
  refine (split_rows _ _ s k t q).trans ?_
  show k0_pay3 (F := Ideal) a5 a6 (ix3 s (tok k t) q) * k0_pay7 (F := Ideal) a0 a1 (ix3 s (tok k t) q) = _
  rw [pay3_at, pay7_at]

theorem pay11_at (w11 : FVec Ideal S64x1024x1152 .f32) (w35 : FVec Ideal S64x8x1152 .f32) (w37 : FVec Ideal S64x8x128x1152 .f32) (a : Fin 3) (q : Fin 1152) :
    k0_pay11 (F := Ideal) w11 w35 w37 a2 (ix3 s a q) = ∑ k : Fin 8, k0_pay10 (F := Ideal) w11 w35 w37 a2 (ix4 s k a q) := by
  pointwise [k0_pay11]

theorem pay10_at (w11 : FVec Ideal S64x1024x1152 .f32) (w35 : FVec Ideal S64x8x1152 .f32) (w37 : FVec Ideal S64x8x128x1152 .f32) (k : Fin 8) (a : Fin 3) (q : Fin 1152) :
    k0_pay10 (F := Ideal) w11 w35 w37 a2 (ix4 s k a q)
      = ![w35 (ix3 s k q), ∑ t : Fin 128, w37 (ix4 s k t q), ∑ t : Fin 128, w11 (ix3 s (tok k t) q) * a2 (ix3 s (tok k t) q)] a := by
  unfold k0_pay10
  refine (cat_rows _ _ _ s k a q).trans ?_
  rw [unit_row, unit_row, unit_row, sum_rows, sum_rows]
  simp only [split_rows]
  rfl

end Tok

end Cert.ReferenceIdeal.Read

end
-- ==== Proof.RefQuant.lean ====
/- The reference's quantiser read at a token and a column. -/
module

public import proofs.«01_k».proof.Proof.Gen.ReferenceIdeal.Skeleton
public import proofs.«01_k».proof.Proof.RefRead

@[expose] public section

set_option maxRecDepth 16384

noncomputable section

namespace Cert.ReferenceIdeal.Read

open Idealize.ShloMosaic Idealize.ShloMosaic.TcCoe Idealize.SL.Sem Cert.ReferenceIdeal Cert.ReferenceIdeal.Gen
open Cert.KernelIdeal.Group (rMu rXc rRstd rXhat rMg rMgx rLn rSlope rSpelled rExp absE Inf invD)

/-! The quantiser: the largest gradient over 57344, the exponent of its scale, and the codes. -/

section Quant

variable (D : FVec Ideal S64x1024x1152 .f32) (R E : FVec Ideal S64x1024 .f32) (s : Fin 64) (p : Fin 1024)

def ratioVec : FVec Ideal S64x1024 .f32 :=
  mulf (multiReduction .maximumf [2] S64x1024 (absf D) 0xFF800000#32 reduces_S64x1024x1152_S64x1024 (.inl rfl) rfl)
    (broadcast S64x1024 (Scalar.ofBits .f32 0x37924925#32 : Ideal .f32))

def expVec : FVec Ideal S64x1024 .f32 :=
  select (andi (cmpf .oge R (broadcast S64x1024 (Scalar.ofBits .f32 0x00800000#32 : Ideal .f32)))
      (cmpf .olt R (broadcast S64x1024 (Scalar.ofBits .f32 0x7E800000#32 : Ideal .f32))))
    (addf (floor (divf (log R) (log (broadcast S64x1024 (Scalar.ofBits .f32 0x40000000#32 : Ideal .f32)))))
      (broadcast S64x1024 (Scalar.ofBits .f32 0x3F800000#32 : Ideal .f32)))
    (broadcast S64x1024 (Scalar.ofBits .f32 0x00000000#32 : Ideal .f32))

def codeVec : FVec Ideal S64x1024x1152 .fp8e5m2 :=
  truncf .fp8e5m2 (minimumf (broadcast S64x1024x1152 (Scalar.ofBits .f32 0x47600000#32 : Ideal .f32))
    (maximumf (broadcast S64x1024x1152 (Scalar.ofBits .f32 0xC7600000#32 : Ideal .f32))
      (mulf D (broadcastTo S64x1024x1152 (shapeCast S64x1024x1 (exp2 (subf (broadcast S64x1024 (Scalar.ofBits .f32 0x00000000#32 : Ideal .f32)) E))
        shapeCasts_S64x1024_S64x1024x1) broadcasts_S64x1024x1_S64x1024x1152)))) bitsLt_fp8e5m2_f32

theorem max_at (D : FVec Ideal S64x1024x1152 .f32) : multiReduction .maximumf [2] S64x1024 D 0xFF800000#32 reduces_S64x1024x1152_S64x1024 (.inl rfl) rfl (ix2 s p)
    = Finset.univ.sup fun q => D (ix3 s p q) := by
  refine Eq.trans ?_ (fold_sup _)
  pointwise

theorem ofBits_eq (b : BitVec 32) : FloatOps.ofBits (F := Ideal) .f32 b = Ideal.ofBits .f32 b := rfl

theorem mul_at (A B : FVec Ideal S64x1024 .f32) : mulf A B (ix2 s p) = A (ix2 s p) * B (ix2 s p) := rfl

theorem abs_at (q : Fin 1152) : absf D (ix3 s p q) = absE (D (ix3 s p q)) := rfl

theorem const_at (c : Ideal .f32) : broadcast S64x1024 c (ix2 s p) = c := rfl

theorem ratio_at : ratioVec D (ix2 s p) = (Finset.univ.sup fun q => absE (D (ix3 s p q))) * Ideal.ofBits .f32 0x37924925#32 := by
  unfold ratioVec
  rw [mul_at, max_at, const_at]
  simp only [abs_at, ofBits_eq]

theorem exp_at : expVec R (ix2 s p) = rExp (R (ix2 s p)) := by
  pointwise [expVec]
  generalize R (ix2 s p) = r
  unfold rExp
  by_cases hA : Ideal.ofBits .f32 0x00800000#32 ≤ r
  · by_cases hB : r < Ideal.ofBits .f32 0x7E800000#32
    · rw [decide_eq_true hA, decide_eq_true hB, if_pos ⟨hA, hB⟩]
      rfl
    · rw [decide_eq_true hA, decide_eq_false hB, if_neg fun h => hB h.2]
      rfl
  · rw [decide_eq_false hA, if_neg fun h => hA h.1]
    generalize decide (r < Ideal.ofBits .f32 0x7E800000#32) = b
    cases b <;> rfl

theorem up_at : exp2 E (ix2 s p) = Ideal.exp2 (E (ix2 s p)) := rfl

theorem code_at (q : Fin 1152) : codeVec D E (ix3 s p q)
    = min (Ideal.ofBits .f32 0x47600000#32) (max (Ideal.ofBits .f32 0xC7600000#32) (D (ix3 s p q) * Ideal.exp2 (0 - E (ix2 s p)))) := by
  pointwise [codeVec]
  simp only [exp2_eq]

variable (w11 w70 w82 : FVec Ideal S64x1024x1152 .f32) (w75 w83 w84 : FVec Ideal S64x1024x1 .f32)

theorem pay22_eq : k0_pay22 (F := Ideal) w11 w70 w75 w82 w83 w84 = expVec (ratioVec (k0_pay21 (F := Ideal) w11 w70 w75 w82 w83 w84)) := by
  unfold k0_pay22 expVec ratioVec
  rfl

theorem pay23_eq : k0_pay23 (F := Ideal) w11 w70 w75 w82 w83 w84 = exp2 (k0_pay22 (F := Ideal) w11 w70 w75 w82 w83 w84) := by
  unfold k0_pay23
  rfl

theorem pay24_eq : k0_pay24 (F := Ideal) w11 w70 w75 w82 w83 w84
    = codeVec (k0_pay21 (F := Ideal) w11 w70 w75 w82 w83 w84) (k0_pay22 (F := Ideal) w11 w70 w75 w82 w83 w84) := by
  unfold k0_pay24 codeVec
  rfl

end Quant

end Cert.ReferenceIdeal.Read

end
-- ==== Proof.Equal.lean ====
/- The kernel's arrays and the reference's are the same, where the scales of `x` are finite. -/
module

public import proofs.«01_k».proof.Proof.Arrays
public import proofs.«01_k».proof.Proof.RefRun
public import proofs.«01_k».proof.Proof.RefSums
public import proofs.«01_k».proof.Proof.RefQuant
public import proofs.«01_k».proof.Proof.Gen.Pre_finite_x_scales

@[expose] public section

set_option maxRecDepth 16384

noncomputable section

namespace Cert.ReferenceIdeal.Equal

open Idealize.ShloMosaic Idealize.ShloMosaic.TcCoe Idealize.SL.Sem Cert.ReferenceIdeal Cert.ReferenceIdeal.Gen Cert.ReferenceIdeal.Run Cert.ReferenceIdeal.Read
open Cert.KernelIdeal.Group (rRstd rMu rMg rSlope rXhat rLn rSpelled rExp absE Inf coe_of_not_inf pr_agree dx_agree ln_spelled scales_agree
  tPr tDx tAmax tRatio tUp tDown tQ gMod gSum gUp gQ B8 B9 B10 B11)

theorem le_absE (a : EReal) : 0 ≤ absE a := by
  unfold absE
  rcases le_total 0 a with h | h
  · exact le_max_of_le_left h
  · exact le_max_of_le_right (by rw [EReal.le_neg, neg_zero]; exact h)

theorem absE_inf {a : EReal} (h : Inf a) : absE a = ⊤ := by
  unfold absE
  rcases h with rfl | rfl <;> simp

/-- A magnitude below the infinity: the value is a real. -/
theorem real_of_absE {a : EReal} (h : absE a < ⊤) : ∃ r : ℝ, a = r :=
  coe_of_not_inf fun hi => (lt_irrefl _ (absE_inf hi ▸ h)).elim

section Arrays

variable (a0 : Vec Ideal S64x1024x1152 .fp8e4m3) (a1 : Vec Ideal S64x1024 .f32) (a2 : Vec Ideal S64x1024x1152 .bf16)
  (a3 : Vec Ideal S64x1024x1152 .fp8e5m2) (a4 : Vec Ideal S64x1024 .f32) (a5 : Vec Ideal S64x1024x1152 .fp8e5m2) (a6 : Vec Ideal S64x1024 .f32)
  (a7 : Vec Ideal S64x1152 .f32) (s : Fin 64) (p : Fin 1024)

/-! The values the reference binds, of the arrays themselves: a load of the whole of an array reads it. -/

theorem w25 : k0_pay25 (F := Ideal) a0 a1 a2 a3 a4 a5 a6 a7 = k0_pay1 (F := Ideal) a0 a1 := by
  unfold k0_pay25
  rw [View.ld_unit_zero (S := S64x1024x1152) hz0 _ a0, View.ld_unit_zero (S := S64x1024) hz1 _ a1]

theorem w26 : k0_pay26 (F := Ideal) a0 a1 a2 a3 a4 a5 a6 a7 = k0_pay2 (F := Ideal) a3 a4 := by
  unfold k0_pay26
  rw [View.ld_unit_zero (S := S64x1024x1152) hz0 _ a3, View.ld_unit_zero (S := S64x1024) hz1 _ a4]

theorem w27 : k0_pay27 (F := Ideal) a0 a1 a2 a3 a4 a5 a6 a7 = k0_pay3 (F := Ideal) a5 a6 := by
  unfold k0_pay27
  rw [View.ld_unit_zero (S := S64x1024x1152) hz0 _ a5, View.ld_unit_zero (S := S64x1024) hz1 _ a6]

theorem w28 : k0_pay28 (F := Ideal) a0 a1 a2 a3 a4 a5 a6 a7 = k0_pay6 (F := Ideal) a0 a1 := by
  unfold k0_pay28
  rw [View.ld_unit_zero (S := S64x1024x1152) hz0 _ a0, View.ld_unit_zero (S := S64x1024) hz1 _ a1]

theorem w29 : k0_pay29 (F := Ideal) a0 a1 a2 a3 a4 a5 a6 a7 = k0_pay7 (F := Ideal) a0 a1 := by
  unfold k0_pay29
  rw [View.ld_unit_zero (S := S64x1024x1152) hz0 _ a0, View.ld_unit_zero (S := S64x1024) hz1 _ a1]

theorem w30 : k0_pay30 (F := Ideal) a0 a1 a2 a3 a4 a5 a6 a7 = k0_pay8 (F := Ideal) a5 a6 := by
  unfold k0_pay30
  rw [View.ld_unit_zero (S := S64x1024x1152) hz0 _ a5, View.ld_unit_zero (S := S64x1024) hz1 _ a6]

theorem w31 : k0_pay31 (F := Ideal) a0 a1 a2 a3 a4 a5 a6 a7 = k0_pay9 (F := Ideal) a0 a1 a5 a6 := by
  unfold k0_pay31
  rw [View.ld_unit_zero (S := S64x1024x1152) hz0 _ a0, View.ld_unit_zero (S := S64x1024) hz1 _ a1, View.ld_unit_zero (S := S64x1024x1152) hz0 _ a5, View.ld_unit_zero (S := S64x1024) hz1 _ a6]

theorem w32 : k0_pay32 (F := Ideal) a0 a1 a2 a3 a4 a5 a6 a7 = k0_pay15 (F := Ideal) (k0_pay3 a5 a6) (k0_pay6 a0 a1) (k0_pay7 a0 a1) a7 := by
  unfold k0_pay32
  rw [w27, w28, w29, View.ld_unit_zero (S := S64x1152) hz1 _ a7]

theorem w33 : k0_pay33 (F := Ideal) a0 a1 a2 a3 a4 a5 a6 a7 = k0_pay16 (F := Ideal) (k0_pay1 a0 a1) (k0_pay3 a5 a6) a7 := by
  unfold k0_pay33
  rw [w25, w27, View.ld_unit_zero (S := S64x1152) hz1 _ a7]

theorem w34 : k0_pay34 (F := Ideal) a0 a1 a2 a3 a4 a5 a6 a7 = k0_pay18 (F := Ideal) (k0_pay1 a0 a1) (k0_pay3 a5 a6) (k0_pay6 a0 a1) (k0_pay7 a0 a1) a7 := by
  unfold k0_pay34
  rw [w25, w27, w28, w29, View.ld_unit_zero (S := S64x1152) hz1 _ a7]

theorem w35 : k0_pay35 (F := Ideal) a0 a1 a2 a3 a4 a5 a6 a7 = k0_pay19 (F := Ideal) (k0_pay3 a5 a6) (k0_pay6 a0 a1) a7 := by
  unfold k0_pay35
  rw [w27, w28, View.ld_unit_zero (S := S64x1152) hz1 _ a7]

theorem w36 : k0_pay36 (F := Ideal) a0 a1 a2 a3 a4 a5 a6 a7 = k0_pay20 (F := Ideal) (k0_pay3 a5 a6) (k0_pay4 a0 a1) (k0_pay6 a0 a1) (k0_pay7 a0 a1) a7 := by
  unfold k0_pay36
  rw [w27, w28, w29, View.ld_unit_zero (S := S64x1024x1152) hz0 _ a0, View.ld_unit_zero (S := S64x1024) hz1 _ a1, View.ld_unit_zero (S := S64x1152) hz1 _ a7]

/-- The gradient of `x` with every value it is made from. -/
def grad : FVec Ideal S64x1024x1152 .f32 :=
  k0_pay21 (F := Ideal) (k0_pay2 a3 a4) (k0_pay15 (k0_pay3 a5 a6) (k0_pay6 a0 a1) (k0_pay7 a0 a1) a7) (k0_pay16 (k0_pay1 a0 a1) (k0_pay3 a5 a6) a7) (k0_pay18 (k0_pay1 a0 a1) (k0_pay3 a5 a6) (k0_pay6 a0 a1) (k0_pay7 a0 a1) a7) (k0_pay19 (k0_pay3 a5 a6) (k0_pay6 a0 a1) a7) (k0_pay20 (k0_pay3 a5 a6) (k0_pay4 a0 a1) (k0_pay6 a0 a1) (k0_pay7 a0 a1) a7)

/-- A token whose largest magnitude is finite has finite values. -/
theorem finite_of_largest (h : ¬Inf (rLargest a0 a1 a5 a6 a7 s p)) : (∀ q, ¬Inf (xTok a0 a1 s p q)) ∧ ∀ q, ¬Inf (gTok a5 a6 a7 s p q) := by
  have key : ∀ q, max (absE (xTok a0 a1 s p q)) (absE (gTok a5 a6 a7 s p q)) ≤ rLargest a0 a1 a5 a6 a7 s p := fun q =>
    Finset.le_sup (f := fun q => max (absE (xTok a0 a1 s p q)) (absE (gTok a5 a6 a7 s p q))) (Finset.mem_univ q)
  constructor <;> intro q hq <;> refine h (.inl (top_le_iff.1 (le_trans ?_ (key q))))
  · rw [absE_inf hq]; exact le_max_left _ _
  · rw [absE_inf hq]; exact le_max_right _ _

/-- The kernel's gradient of `x` at a token and a column. -/
abbrev kDx (q : Fin 1152) : EReal :=
  tDx (fun q => a0 (ix3 s p q)) (fun q => a3 (ix3 s p q)) (fun q => a5 (ix3 s p q)) (fun q => 1 + a7 (ix2 s q)) (a1 (ix2 s p)) (a4 (ix2 s p)) (a6 (ix2 s p)) q

theorem grad_at (r : ℝ) (hr : a1 (ix2 s p) = r) (q : Fin 1152) : grad a0 a1 a3 a4 a5 a6 a7 (ix3 s p q) = kDx a0 a1 a3 a4 a5 a6 a7 s p q := by
  unfold grad
  refine (pay21_at s p _ _ _ _ _ _ q ?_).trans ?_
  · rw [pay16_at, pay15_at, pay18_at, pay19_at, pay20_at]
    intro h
    obtain ⟨hx, hg⟩ := finite_of_largest a0 a1 a5 a6 a7 s p h
    exact ln_spelled _ _ hx hg q
  · rw [pay2_at, pay18_at, pay19_at, pay20_at]
    have hx : xTok a0 a1 s p = fun q => a0 (ix3 s p q) * (r : EReal) := funext fun q => by rw [← hr]; rfl
    unfold kDx
    rw [hr, dx_agree, hx]
    rfl

/-- The kernel's largest gradient over 57344. -/
abbrev kRatio : EReal :=
  tRatio (fun q => a0 (ix3 s p q)) (fun q => a3 (ix3 s p q)) (fun q => a5 (ix3 s p q)) (fun q => 1 + a7 (ix2 s q)) (a1 (ix2 s p)) (a4 (ix2 s p)) (a6 (ix2 s p))

theorem sup_nonneg (f : Fin 1152 → EReal) : 0 ≤ Finset.univ.sup fun q => absE (f q) :=
  (le_absE (f 0)).trans (Finset.le_sup (f := fun q => absE (f q)) (Finset.mem_univ 0))

theorem recip_nonneg : 0 ≤ Ideal.ofBits .f32 0x37924925#32 := by
  simp [Ideal.ofBits, Ideal.ieee]
  rw [← EReal.coe_mul]
  exact EReal.coe_nonneg.2 (by positivity)

theorem kRatio_eq : kRatio a0 a1 a3 a4 a5 a6 a7 s p = (Finset.univ.sup fun q => absE (kDx a0 a1 a3 a4 a5 a6 a7 s p q)) * Ideal.ofBits .f32 0x37924925#32 := by
  unfold kRatio tRatio tAmax
  rw [max_eq_right (sup_nonneg _)]

theorem kRatio_nonneg : 0 ≤ kRatio a0 a1 a3 a4 a5 a6 a7 s p := by
  rw [kRatio_eq]
  exact mul_nonneg (sup_nonneg _) recip_nonneg

theorem exp_grad (r : ℝ) (hr : a1 (ix2 s p) = r) : expVec (ratioVec (grad a0 a1 a3 a4 a5 a6 a7)) (ix2 s p) = rExp (kRatio a0 a1 a3 a4 a5 a6 a7 s p) := by
  rw [exp_at, ratio_at, kRatio_eq]
  simp only [grad_at a0 a1 a3 a4 a5 a6 a7 s p r hr]

/-! The four results. -/

variable (hfin : ∀ s p, ∃ r : ℝ, a1 (ix2 s p) = r)

include hfin in
theorem scales_eq : G11 (F := Ideal) a0 a1 a2 a3 a4 a5 a6 a7 = B11 a0 a1 a3 a4 a5 a6 a7 := by
  funext y
  idx_vars y
  obtain ⟨r, hr⟩ := hfin y0 y1
  unfold G11
  rw [w26, w32, w33, w34, w35, w36, pay23_eq, up_at, pay22_eq]
  refine (congrArg Ideal.exp2 (exp_grad a0 a1 a3 a4 a5 a6 a7 y0 y1 r hr)).trans ?_
  exact (scales_agree _ (kRatio_nonneg a0 a1 a3 a4 a5 a6 a7 y0 y1)).1.symm

include hfin in
theorem codes_eq : G10 (F := Ideal) a0 a1 a2 a3 a4 a5 a6 a7 = B10 a0 a1 a3 a4 a5 a6 a7 := by
  funext y
  idx_vars y
  obtain ⟨r, hr⟩ := hfin y0 y1
  unfold G10
  rw [w26, w32, w33, w34, w35, w36, pay24_eq, pay22_eq]
  refine (code_at _ _ y0 y1 y2).trans ?_
  refine congrArg (fun z => min (Ideal.ofBits .f32 0x47600000#32) (max (Ideal.ofBits .f32 0xC7600000#32) z)) ?_
  refine (congrArg₂ (fun u v => u * Ideal.exp2 (0 - v)) (grad_at a0 a1 a3 a4 a5 a6 a7 y0 y1 r hr y2) (exp_grad a0 a1 a3 a4 a5 a6 a7 y0 y1 r hr)).trans ?_
  exact congrArg (kDx a0 a1 a3 a4 a5 a6 a7 y0 y1 y2 * ·) (scales_agree _ (kRatio_nonneg a0 a1 a3 a4 a5 a6 a7 y0 y1)).2.symm

include hfin in
theorem sums_at (k : Fin 8) (a : Fin 3) (q : Fin 1152) :
    k0_pay10 (F := Ideal) (k0_pay2 a3 a4) (k0_pay8 a5 a6) (k0_pay9 a0 a1 a5 a6) a2 (ix4 s k a q) = gSum a0 a1 a2 a3 a4 a5 a6 s k a q := by
  rw [pay10_at]
  unfold gSum gMod
  fin_cases a
  · exact pay8_at a5 a6 s k q
  · show (∑ t : Fin 128, k0_pay9 (F := Ideal) a0 a1 a5 a6 (ix4 s k t q)) = ∑ t : Fin 128, tPr (fun q => a0 (ix3 s (tok k t) q)) (fun q => a5 (ix3 s (tok k t) q)) (a1 (ix2 s (tok k t))) (a6 (ix2 s (tok k t))) q
    refine Finset.sum_congr rfl fun t _ => ?_
    obtain ⟨r, hr⟩ := hfin s (tok k t)
    have hx : xTok a0 a1 s (tok k t) = fun q => a0 (ix3 s (tok k t) q) * (r : EReal) := funext fun q => by rw [← hr]; rfl
    rw [pay9_at, hx]
    rw [hr, pr_agree]
  · show (∑ t : Fin 128, k0_pay2 (F := Ideal) a3 a4 (ix3 s (tok k t) q) * a2 (ix3 s (tok k t) q))
      = ∑ t : Fin 128, a3 (ix3 s (tok k t) q) * a4 (ix2 s (tok k t)) * a2 (ix3 s (tok k t) q)
    refine Finset.sum_congr rfl fun t _ => ?_
    rw [pay2_at]

include hfin in
theorem parts_eq : G9 (F := Ideal) a0 a1 a2 a3 a4 a5 a6 a7 = B9 a0 a1 a2 a3 a4 a5 a6 := by
  funext y
  idx_vars y
  unfold G9
  rw [w26, w30, w31]
  exact sums_at a0 a1 a2 a3 a4 a5 a6 y0 hfin y1 y2 y3

include hfin in
theorem total_eq : G8 (F := Ideal) a0 a1 a2 a3 a4 a5 a6 a7 = B8 a0 a1 a2 a3 a4 a5 a6 := by
  funext y
  idx_vars y
  unfold G8
  rw [w26, w30, w31]
  refine (pay11_at a2 y0 _ _ _ y1 y2).trans (Finset.sum_congr rfl fun k _ => ?_)
  exact sums_at a0 a1 a2 a3 a4 a5 a6 y0 hfin k y1 y2

/-- What the precondition says: every scale of `x` is a real. -/
theorem real_of_pre (h : Cert.Pre_finite_x_scales.fn (F := Ideal) a0 a1 a2 a3 a4 a5 a6 a7 = fun _ => 1#1) : ∃ r : ℝ, a1 (ix2 s p) = r := by
  have h1 := congrFun h (ix2 s p)
  refine real_of_absE ?_
  by_contra hn
  have h2 : (BitVec.ofBool (decide (absE (a1 (ix2 s p)) < Ideal.ofBits .f32 0x7F800000#32)) : BitVec 1) = 1#1 := h1
  rw [show Ideal.ofBits FTy.f32 0x7F800000#32 = ⊤ by simp [Ideal.ofBits, Ideal.ieee], decide_eq_false hn] at h2
  exact absurd h2 (by decide)

end Arrays

end Cert.ReferenceIdeal.Equal

end
-- ==== Proof.Algebraic.lean ====
/- The ideal reading of the kernel and the reference leave the same four results. -/
module

public import proofs.«01_k».proof.Defs
public import proofs.«01_k».proof.Proof.Equal

@[expose] public section

set_option maxRecDepth 16384

noncomputable section

namespace Cert.Algebraic

open Idealize.ShloMosaic Idealize.SL.Sem
open Cert.KernelIdeal.Group (B8 B9 B10 B11)

theorem claim : Cert.algebraic_KernelIdeal_ReferenceIdeal_pre_finite_x_scales (hKernelIdeal := Cert.KernelIdeal.Gen.facts)
    (hReferenceIdeal := Cert.ReferenceIdeal.Gen.facts) (hPre_finite_x_scales := Cert.Pre_finite_x_scales.Gen.facts) := by
  intro m g m' g' hpre heq
  refine ⟨fun c => B8 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => B9 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => B10 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => B11 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Group.values m g, ?_⟩
  refine (θ_run Cert.ReferenceIdeal.defs _ _).mono (fun r h c => ?_) (Cert.ReferenceIdeal.Run.run m' g')
  obtain ⟨e0, e1, e2, e3, e4, e5, e6, e7⟩ := heq c
  obtain ⟨r8, r9, r10, r11, hargs⟩ := h c
  have hfin := fun s p => Cert.ReferenceIdeal.Equal.real_of_pre _ _ _ _ _ _ _ _ s p (hpre c)
  refine ⟨r8.trans ?_, r9.trans ?_, r10.trans ?_, r11.trans ?_, hargs⟩
  all_goals rw [e0, e1, e2, e3, e4, e5, e6, e7]
  · exact Cert.ReferenceIdeal.Equal.total_eq _ _ _ _ _ _ _ _ hfin
  · exact Cert.ReferenceIdeal.Equal.parts_eq _ _ _ _ _ _ _ _ hfin
  · exact Cert.ReferenceIdeal.Equal.codes_eq _ _ _ _ _ _ _ _ hfin
  · exact Cert.ReferenceIdeal.Equal.scales_eq _ _ _ _ _ _ _ _ hfin

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Frame
public import proofs.«01_k».proof.Proof.Gen.Pre_finite_x_scales
public import proofs.«01_k».proof.Proof.Arrays
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem preserves : Cert.preserves_Kernel_KernelIdeal :=
  IdealRules.named_const.statement Cert.KernelIdeal.κ "inv_d" .f32 0x3A638E39#32 ((1 / 1152 : ℝ) : EReal) rfl

theorem claim : Cert.Claim :=
  ⟨Cert.Kernel.Gen.facts, Cert.KernelIdeal.Gen.facts, Cert.ReferenceIdeal.Gen.facts, Cert.Pre_finite_x_scales.Gen.facts,
    fun m ρ _ => Cert.Kernel.Whole.frame m ρ, fun m ρ _ => Cert.KernelIdeal.Group.frame m ρ, fun m ρ _ => Cert.KernelIdeal.Group.frame m ρ,
    fun m ρ _ => Cert.ReferenceIdeal.Gen.frame m ρ, fun m ρ _ => Cert.ReferenceIdeal.Gen.frame m ρ, preserves, Cert.Algebraic.claim⟩

end Cert.Proof

end
